-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_w1_finite [hPre_w1_finite : Cert.Pre_w1_finite.Facts] (m : (ℓ : Loc Cert.KernelIdeal.nD Cert.KernelIdeal.τ Cert.KernelIdeal.sig) → Buf (Elt Ideal) ℓ) : Prop :=
  ∀ c : Dev Cert.KernelIdeal.nD,
    (Cert.Pre_w1_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_w1_finite [hPre_w1_finite : Cert.Pre_w1_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_w1_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_w1_finite [hKernelIdeal : Cert.KernelIdeal.Facts] [hPre_w1_finite : Cert.Pre_w1_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_w1_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_w1_finite [hReferenceIdeal : Cert.ReferenceIdeal.Facts] [hPre_w1_finite : Cert.Pre_w1_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_w1_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_w1_finite [hKernelIdeal : Cert.KernelIdeal.Facts] [hReferenceIdeal : Cert.ReferenceIdeal.Facts] [hPre_w1_finite : Cert.Pre_w1_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_w1_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_w1_finite : Cert.Pre_w1_finite.Facts),
    quiescent_Kernel (hKernel := hKernel)
    ∧ quiescent_KernelIdeal (hKernelIdeal := hKernelIdeal)
    ∧ quiescent_KernelIdeal_pre_w1_finite (hKernelIdeal := hKernelIdeal) (hPre_w1_finite := hPre_w1_finite)
    ∧ quiescent_ReferenceIdeal (hReferenceIdeal := hReferenceIdeal)
    ∧ quiescent_ReferenceIdeal_pre_w1_finite (hReferenceIdeal := hReferenceIdeal) (hPre_w1_finite := hPre_w1_finite)
    ∧ preserves_Kernel_KernelIdeal
    ∧ algebraic_KernelIdeal_ReferenceIdeal_pre_w1_finite (hKernelIdeal := hKernelIdeal) (hReferenceIdeal := hReferenceIdeal) (hPre_w1_finite := hPre_w1_finite)
-- ==== Pre_w1_finite.lean ====
abbrev S2x2048x3 : Shape := ⟨3, ![2, 2048, 3]⟩
abbrev S2x8192x3 : Shape := ⟨3, ![2, 8192, 3]⟩
abbrev S2x256x180x180 : Shape := ⟨4, ![2, 256, 180, 180]⟩
abbrev S3x8 : Shape := ⟨2, ![3, 8]⟩
abbrev S8x16 : Shape := ⟨2, ![8, 16]⟩
abbrev S16x32 : Shape := ⟨2, ![16, 32]⟩
abbrev S288x128 : Shape := ⟨2, ![288, 128]⟩
abbrev S_ : Shape := ⟨0, ![]⟩

class Facts : Prop where
  bcast_S_S3x8 : S_.BroadcastsInDim S3x8 (![] : Fin 0 → Fin S3x8.rank)

variable [Facts]

def fn {F : FTy → Type} [FloatOps F] (main_arg0 : FVec F S2x2048x3 .f32) (main_arg1 : FVec F S2x8192x3 .f32) (main_arg2 : FVec F S2x256x180x180 .f32) (main_arg3 : FVec F S3x8 .f32) (main_arg4 : FVec F S8x16 .f32) (main_arg5 : FVec F S16x32 .f32) (main_arg6 : FVec F S288x128 .f32) : IVec S3x8 1 :=
  let main_v0 : FVec F S3x8 .f32 := Host.absf main_arg3
  let main_cst : FVec F S_ .f32 := constant S_ .f32 0x7F800000#32
  let main_v1 : FVec F S3x8 .f32 := broadcastInDim S3x8 ![] bcast_S_S3x8 main_cst
  let main_v2 : IVec S3x8 1 := cmpf .olt main_v0 main_v1
  main_v2
-- ==== Kernel.lean ====
abbrev S2x2048x3 : Shape := ⟨3, ![2, 2048, 3]⟩
abbrev S2x8192x3 : Shape := ⟨3, ![2, 8192, 3]⟩
abbrev S2x256x180x180 : Shape := ⟨4, ![2, 256, 180, 180]⟩
abbrev S3x8 : Shape := ⟨2, ![3, 8]⟩
abbrev S8x16 : Shape := ⟨2, ![8, 16]⟩
abbrev S16x32 : Shape := ⟨2, ![16, 32]⟩
abbrev S288x128 : Shape := ⟨2, ![288, 128]⟩
abbrev S2x2048x1 : Shape := ⟨3, ![2, 2048, 1]⟩
abbrev S2x2048 : Shape := ⟨2, ![2, 2048]⟩
abbrev S_ : Shape := ⟨0, ![]⟩
abbrev S2x180x180x256 : Shape := ⟨4, ![2, 180, 180, 256]⟩
abbrev S2x2048x2 : Shape := ⟨3, ![2, 2048, 2]⟩
abbrev S2x2048x256 : Shape := ⟨3, ![2, 2048, 256]⟩
abbrev S2x3x2048 : Shape := ⟨3, ![2, 3, 2048]⟩
abbrev S2x3x8192 : Shape := ⟨3, ![2, 3, 8192]⟩
abbrev S256x128 : Shape := ⟨2, ![256, 128]⟩
abbrev S32x128 : Shape := ⟨2, ![32, 128]⟩
abbrev S2x2048x128 : Shape := ⟨3, ![2, 2048, 128]⟩
abbrev S1x3x256 : Shape := ⟨3, ![1, 3, 256]⟩
abbrev S1x3x8192 : Shape := ⟨3, ![1, 3, 8192]⟩
abbrev S1x256x256 : Shape := ⟨3, ![1, 256, 256]⟩
abbrev S1x256x128 : Shape := ⟨3, ![1, 256, 128]⟩
abbrev S3x256 : Shape := ⟨2, ![3, 256]⟩
abbrev S3x8192 : Shape := ⟨2, ![3, 8192]⟩
abbrev S1x256 : Shape := ⟨2, ![1, 256]⟩
abbrev S256 : Shape := ⟨1, ![256]⟩
abbrev S256x1 : Shape := ⟨2, ![256, 1]⟩
abbrev S1x8192 : Shape := ⟨2, ![1, 8192]⟩
abbrev S8192 : Shape := ⟨1, ![8192]⟩
abbrev S256x8192 : Shape := ⟨2, ![256, 8192]⟩
abbrev S8192x8 : Shape := ⟨2, ![8192, 8]⟩
abbrev S256x8 : Shape := ⟨2, ![256, 8]⟩
abbrev S256x32 : Shape := ⟨2, ![256, 32]⟩
abbrev S256x16 : Shape := ⟨2, ![256, 16]⟩
abbrev S256x256 : Shape := ⟨2, ![256, 256]⟩

abbrev nBuf : Space → Nat
  | .hbm => 178
  | .vmem => 13
  | .smem => 0
  | _ => 0

abbrev hbmTy0_0 (i : Nat) : BufTy := match i % 128 with
  | 0 => ⟨S2x2048x3, .f32⟩
  | 1 => ⟨S2x8192x3, .f32⟩
  | 2 => ⟨S2x256x180x180, .f32⟩
  | 3 => ⟨S3x8, .f32⟩
  | 4 => ⟨S8x16, .f32⟩
  | 5 => ⟨S16x32, .f32⟩
  | 6 => ⟨S288x128, .f32⟩
  | 7 => ⟨S2x2048x1, .f32⟩
  | 8 => ⟨S2x2048, .f32⟩
  | 9 => ⟨S_, .f32⟩
  | 10 => ⟨S2x2048, .f32⟩
  | 11 => ⟨S2x2048, .f32⟩
  | 12 => ⟨S_, .f32⟩
  | 13 => ⟨S2x2048, .f32⟩
  | 14 => ⟨S2x2048, .f32⟩
  | 15 => ⟨S2x2048x1, .f32⟩
  | 16 => ⟨S2x2048, .f32⟩
  | 17 => ⟨S_, .f32⟩
  | 18 => ⟨S2x2048, .f32⟩
  | 19 => ⟨S2x2048, .f32⟩
  | 20 => ⟨S_, .f32⟩
  | 21 => ⟨S2x2048, .f32⟩
  | 22 => ⟨S2x2048, .f32⟩
  | 23 => ⟨S2x2048, .f32⟩
  | 24 => ⟨S2x2048, .i32⟩
  | 25 => ⟨S_, .i32⟩
  | 26 => ⟨S_, .i32⟩
  | 27 => ⟨S_, .i32⟩
  | 28 => ⟨S2x2048, .i32⟩
  | 29 => ⟨S2x2048, .i32⟩
  | 30 => ⟨S_, .i32⟩
  | 31 => ⟨S2x2048, .i32⟩
  | 32 => ⟨S2x2048, .i32⟩
  | 33 => ⟨S2x2048, .f32⟩
  | 34 => ⟨S2x2048, .i32⟩
  | 35 => ⟨S_, .i32⟩
  | 36 => ⟨S2x2048, .i32⟩
  | 37 => ⟨S2x2048, .i32⟩
  | 38 => ⟨S_, .i32⟩
  | 39 => ⟨S_, .i32⟩
  | 40 => ⟨S_, .i32⟩
  | 41 => ⟨S2x2048, .i32⟩
  | 42 => ⟨S2x2048, .i32⟩
  | 43 => ⟨S_, .i32⟩
  | 44 => ⟨S2x2048, .i32⟩
  | 45 => ⟨S2x2048, .i32⟩
  | 46 => ⟨S2x2048, .f32⟩
  | 47 => ⟨S2x2048, .i32⟩
  | 48 => ⟨S_, .i32⟩
  | 49 => ⟨S_, .i32⟩
  | 50 => ⟨S_, .i32⟩
  | 51 => ⟨S2x2048, .i32⟩
  | 52 => ⟨S2x2048, .i32⟩
  | 53 => ⟨S_, .i32⟩
  | 54 => ⟨S2x2048, .i32⟩
  | 55 => ⟨S2x2048, .i32⟩
  | 56 => ⟨S2x2048, .f32⟩
  | 57 => ⟨S2x2048, .i32⟩
  | 58 => ⟨S_, .i32⟩
  | 59 => ⟨S2x2048, .i32⟩
  | 60 => ⟨S2x2048, .i32⟩
  | 61 => ⟨S_, .i32⟩
  | 62 => ⟨S_, .i32⟩
  | 63 => ⟨S_, .i32⟩
  | 64 => ⟨S2x2048, .i32⟩
  | 65 => ⟨S2x2048, .i32⟩
  | 66 => ⟨S_, .i32⟩
  | 67 => ⟨S2x2048, .i32⟩
  | 68 => ⟨S2x2048, .i32⟩
  | 69 => ⟨S2x180x180x256, .f32⟩
  | 70 => ⟨S_, .i32⟩
  | 71 => ⟨S2x2048, .i32⟩
  | 72 => ⟨S2x2048, .i1⟩
  | 73 => ⟨S_, .i32⟩
  | 74 => ⟨S2x2048, .i32⟩
  | 75 => ⟨S2x2048, .i32⟩
  | 76 => ⟨S2x2048, .i32⟩
  | 77 => ⟨S_, .i32⟩
  | 78 => ⟨S2x2048, .i32⟩
  | 79 => ⟨S2x2048, .i1⟩
  | 80 => ⟨S_, .i32⟩
  | 81 => ⟨S2x2048, .i32⟩
  | 82 => ⟨S2x2048, .i32⟩
  | 83 => ⟨S2x2048, .i32⟩
  | 84 => ⟨S2x2048x1, .i32⟩
  | 85 => ⟨S2x2048x1, .i32⟩
  | 86 => ⟨S2x2048x2, .i32⟩
  | 87 => ⟨S2x2048x256, .f32⟩
  | 88 => ⟨S_, .i32⟩
  | 89 => ⟨S2x2048, .i32⟩
  | 90 => ⟨S2x2048, .i1⟩
  | 91 => ⟨S_, .i32⟩
  | 92 => ⟨S2x2048, .i32⟩
  | 93 => ⟨S2x2048, .i32⟩
  | 94 => ⟨S2x2048, .i32⟩
  | 95 => ⟨S_, .i32⟩
  | 96 => ⟨S2x2048, .i32⟩
  | 97 => ⟨S2x2048, .i1⟩
  | 98 => ⟨S_, .i32⟩
  | 99 => ⟨S2x2048, .i32⟩
  | 100 => ⟨S2x2048, .i32⟩
  | 101 => ⟨S2x2048, .i32⟩
  | 102 => ⟨S2x2048x1, .i32⟩
  | 103 => ⟨S2x2048x1, .i32⟩
  | 104 => ⟨S2x2048x2, .i32⟩
  | 105 => ⟨S2x2048x256, .f32⟩
  | 106 => ⟨S_, .i32⟩
  | 107 => ⟨S2x2048, .i32⟩
  | 108 => ⟨S2x2048, .i1⟩
  | 109 => ⟨S_, .i32⟩
  | 110 => ⟨S2x2048, .i32⟩
  | 111 => ⟨S2x2048, .i32⟩
  | 112 => ⟨S2x2048, .i32⟩
  | 113 => ⟨S_, .i32⟩
  | 114 => ⟨S2x2048, .i32⟩
  | 115 => ⟨S2x2048, .i1⟩
  | 116 => ⟨S_, .i32⟩
  | 117 => ⟨S2x2048, .i32⟩
  | 118 => ⟨S2x2048, .i32⟩
  | 119 => ⟨S2x2048, .i32⟩
  | 120 => ⟨S2x2048x1, .i32⟩
  | 121 => ⟨S2x2048x1, .i32⟩
  | 122 => ⟨S2x2048x2, .i32⟩
  | 123 => ⟨S2x2048x256, .f32⟩
  | 124 => ⟨S_, .i32⟩
  | 125 => ⟨S2x2048, .i32⟩
  | 126 => ⟨S2x2048, .i1⟩
  | 127 => ⟨S_, .i32⟩
  | _ => ⟨S2x2048x3, .f32⟩

abbrev hbmTy0_1 (i : Nat) : BufTy := match i % 128 with
  | 0 => ⟨S2x2048, .i32⟩
  | 1 => ⟨S2x2048, .i32⟩
  | 2 => ⟨S2x2048, .i32⟩
  | 3 => ⟨S_, .i32⟩
  | 4 => ⟨S2x2048, .i32⟩
  | 5 => ⟨S2x2048, .i1⟩
  | 6 => ⟨S_, .i32⟩
  | 7 => ⟨S2x2048, .i32⟩
  | 8 => ⟨S2x2048, .i32⟩
  | 9 => ⟨S2x2048, .i32⟩
  | 10 => ⟨S2x2048x1, .i32⟩
  | 11 => ⟨S2x2048x1, .i32⟩
  | 12 => ⟨S2x2048x2, .i32⟩
  | 13 => ⟨S2x2048x256, .f32⟩
  | 14 => ⟨S2x2048, .f32⟩
  | 15 => ⟨S2x2048, .f32⟩
  | 16 => ⟨S2x2048, .f32⟩
  | 17 => ⟨S2x2048, .f32⟩
  | 18 => ⟨S2x2048, .f32⟩
  | 19 => ⟨S2x2048, .f32⟩
  | 20 => ⟨S2x2048, .f32⟩
  | 21 => ⟨S2x2048, .f32⟩
  | 22 => ⟨S2x2048, .f32⟩
  | 23 => ⟨S2x2048, .f32⟩
  | 24 => ⟨S2x2048, .f32⟩
  | 25 => ⟨S2x2048, .f32⟩
  | 26 => ⟨S2x2048, .f32⟩
  | 27 => ⟨S2x2048, .f32⟩
  | 28 => ⟨S2x2048, .f32⟩
  | 29 => ⟨S2x2048, .f32⟩
  | 30 => ⟨S2x2048x1, .f32⟩
  | 31 => ⟨S2x2048x256, .f32⟩
  | 32 => ⟨S2x2048x256, .f32⟩
  | 33 => ⟨S2x2048x1, .f32⟩
  | 34 => ⟨S2x2048x256, .f32⟩
  | 35 => ⟨S2x2048x256, .f32⟩
  | 36 => ⟨S2x2048x256, .f32⟩
  | 37 => ⟨S2x2048x1, .f32⟩
  | 38 => ⟨S2x2048x256, .f32⟩
  | 39 => ⟨S2x2048x256, .f32⟩
  | 40 => ⟨S2x2048x256, .f32⟩
  | 41 => ⟨S2x2048x1, .f32⟩
  | 42 => ⟨S2x2048x256, .f32⟩
  | 43 => ⟨S2x2048x256, .f32⟩
  | 44 => ⟨S2x2048x256, .f32⟩
  | 45 => ⟨S2x3x2048, .f32⟩
  | 46 => ⟨S2x3x8192, .f32⟩
  | 47 => ⟨S256x128, .f32⟩
  | 48 => ⟨S32x128, .f32⟩
  | 49 => ⟨S2x2048x128, .f32⟩
  | _ => ⟨S2x2048x3, .f32⟩

abbrev hbmTy (i : Nat) : BufTy := match i / 128 with
  | 0 => hbmTy0_0 i
  | 1 => hbmTy0_1 i
  | _ => ⟨S2x2048x3, .f32⟩

abbrev bufTy : (tb : Table) → Fin (tcTables nBuf tb) → BufTy
  | .hbm, ⟨i, _⟩ => hbmTy i
  | .local _ .vmem, ⟨0, _⟩ => ⟨S1x3x256, .f32⟩
  | .local _ .vmem, ⟨1, _⟩ => ⟨S1x3x256, .f32⟩
  | .local _ .vmem, ⟨2, _⟩ => ⟨S1x3x8192, .f32⟩
  | .local _ .vmem, ⟨3, _⟩ => ⟨S1x3x8192, .f32⟩
  | .local _ .vmem, ⟨4, _⟩ => ⟨S1x256x256, .f32⟩
  | .local _ .vmem, ⟨5, _⟩ => ⟨S1x256x256, .f32⟩
  | .local _ .vmem, ⟨6, _⟩ => ⟨S3x8, .f32⟩
  | .local _ .vmem, ⟨7, _⟩ => ⟨S8x16, .f32⟩
  | .local _ .vmem, ⟨8, _⟩ => ⟨S16x32, .f32⟩
  | .local _ .vmem, ⟨9, _⟩ => ⟨S256x128, .f32⟩
  | .local _ .vmem, ⟨10, _⟩ => ⟨S32x128, .f32⟩
  | .local _ .vmem, ⟨11, _⟩ => ⟨S1x256x128, .f32⟩
  | .local _ .vmem, ⟨12, _⟩ => ⟨S1x256x128, .f32⟩
  | _, _ => ⟨S2x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_c_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_c_6 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_7 : Ref sig .tc := ⟨.hbm, 48, rfl⟩
abbrev main_c_8 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_c_9 : Ref sig .tc := ⟨.hbm, 58, rfl⟩
abbrev main_v25 : Ref sig .tc := ⟨.hbm, 59, rfl⟩
abbrev main_v26 : Ref sig .tc := ⟨.hbm, 60, rfl⟩
abbrev main_c_10 : Ref sig .tc := ⟨.hbm, 61, rfl⟩
abbrev main_c_11 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v27 : Ref sig .tc := ⟨.hbm, 68, rfl⟩
abbrev main_v28 : Ref sig .tc := ⟨.hbm, 69, rfl⟩
abbrev main_c_12 : Ref sig .tc := ⟨.hbm, 70, rfl⟩
abbrev main_v29 : Ref sig .tc := ⟨.hbm, 71, rfl⟩
abbrev main_v30 : Ref sig .tc := ⟨.hbm, 72, rfl⟩
abbrev main_c_13 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_c_14 : Ref sig .tc := ⟨.hbm, 77, rfl⟩
abbrev main_v34 : Ref sig .tc := ⟨.hbm, 78, rfl⟩
abbrev main_v35 : Ref sig .tc := ⟨.hbm, 79, rfl⟩
abbrev main_c_15 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_c_16 : Ref sig .tc := ⟨.hbm, 88, rfl⟩
abbrev main_v43 : Ref sig .tc := ⟨.hbm, 89, rfl⟩
abbrev main_v44 : Ref sig .tc := ⟨.hbm, 90, rfl⟩
abbrev main_c_17 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_c_18 : Ref sig .tc := ⟨.hbm, 95, rfl⟩
abbrev main_v48 : Ref sig .tc := ⟨.hbm, 96, rfl⟩
abbrev main_v49 : Ref sig .tc := ⟨.hbm, 97, rfl⟩
abbrev main_c_19 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_c_20 : Ref sig .tc := ⟨.hbm, 106, rfl⟩
abbrev main_v57 : Ref sig .tc := ⟨.hbm, 107, rfl⟩
abbrev main_v58 : Ref sig .tc := ⟨.hbm, 108, rfl⟩
abbrev main_c_21 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_c_22 : Ref sig .tc := ⟨.hbm, 113, rfl⟩
abbrev main_v62 : Ref sig .tc := ⟨.hbm, 114, rfl⟩
abbrev main_v63 : Ref sig .tc := ⟨.hbm, 115, rfl⟩
abbrev main_c_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_c_24 : Ref sig .tc := ⟨.hbm, 124, rfl⟩
abbrev main_v71 : Ref sig .tc := ⟨.hbm, 125, rfl⟩
abbrev main_v72 : Ref sig .tc := ⟨.hbm, 126, rfl⟩
abbrev main_c_25 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_c_26 : Ref sig .tc := ⟨.hbm, 131, rfl⟩
abbrev main_v76 : Ref sig .tc := ⟨.hbm, 132, rfl⟩
abbrev main_v77 : Ref sig .tc := ⟨.hbm, 133, rfl⟩
abbrev main_c_27 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v43 : BitVec 32 := Scalar.addi c0_i32 c16_i32
  let c1_i32 : BitVec 32 := 1#32
  ⟨c0_i32, v43, c1_i32⟩
def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2x2048x3 : Shape := ⟨3, ![2, 2048, 3]⟩
abbrev S2x8192x3 : Shape := ⟨3, ![2, 8192, 3]⟩
abbrev S2x256x180x180 : Shape := ⟨4, ![2, 256, 180, 180]⟩
abbrev S3x8 : Shape := ⟨2, ![3, 8]⟩
abbrev S8x16 : Shape := ⟨2, ![8, 16]⟩
abbrev S16x32 : Shape := ⟨2, ![16, 32]⟩
abbrev S288x128 : Shape := ⟨2, ![288, 128]⟩
abbrev S2x2048x1 : Shape := ⟨3, ![2, 2048, 1]⟩
abbrev S2x2048 : Shape := ⟨2, ![2, 2048]⟩
abbrev S_ : Shape := ⟨0, ![]⟩
abbrev S2x180x180x256 : Shape := ⟨4, ![2, 180, 180, 256]⟩
abbrev S2x2048x2 : Shape := ⟨3, ![2, 2048, 2]⟩
abbrev S2x2048x256 : Shape := ⟨3, ![2, 2048, 256]⟩
abbrev S2x2048x1x3 : Shape := ⟨4, ![2, 2048, 1, 3]⟩
abbrev S2x1x8192x3 : Shape := ⟨4, ![2, 1, 8192, 3]⟩
abbrev S2x2048x8192x3 : Shape := ⟨4, ![2, 2048, 8192, 3]⟩
abbrev S2x2048x8192 : Shape := ⟨3, ![2, 2048, 8192]⟩
abbrev S2x2048x16 : Shape := ⟨3, ![2, 2048, 16]⟩
abbrev S2x2048x16x1 : Shape := ⟨4, ![2, 2048, 16, 1]⟩
abbrev S2x2048x16x3 : Shape := ⟨4, ![2, 2048, 16, 3]⟩
abbrev S2x2048x16x8 : Shape := ⟨4, ![2, 2048, 16, 8]⟩
abbrev S2x2048x16x16 : Shape := ⟨4, ![2, 2048, 16, 16]⟩
abbrev S2x2048x16x32 : Shape := ⟨4, ![2, 2048, 16, 32]⟩
abbrev S2x2048x32 : Shape := ⟨3, ![2, 2048, 32]⟩
abbrev S2x2048x288 : Shape := ⟨3, ![2, 2048, 288]⟩
abbrev S2x2048x128 : Shape := ⟨3, ![2, 2048, 128]⟩

abbrev nBuf : Space → Nat
  | .hbm => 235
  | .vmem => 0
  | .smem => 0
  | _ => 0

abbrev hbmTy0_0 (i : Nat) : BufTy := match i % 128 with
  | 0 => ⟨S2x2048x3, .f32⟩
  | 1 => ⟨S2x8192x3, .f32⟩
  | 2 => ⟨S2x256x180x180, .f32⟩
  | 3 => ⟨S3x8, .f32⟩
  | 4 => ⟨S8x16, .f32⟩
  | 5 => ⟨S16x32, .f32⟩
  | 6 => ⟨S288x128, .f32⟩
  | 7 => ⟨S2x2048x1, .f32⟩
  | 8 => ⟨S2x2048, .f32⟩
  | 9 => ⟨S_, .f32⟩
  | 10 => ⟨S2x2048, .f32⟩
  | 11 => ⟨S2x2048, .f32⟩
  | 12 => ⟨S_, .f32⟩
  | 13 => ⟨S2x2048, .f32⟩
  | 14 => ⟨S2x2048, .f32⟩
  | 15 => ⟨S_, .f32⟩
  | 16 => ⟨S2x2048, .f32⟩
  | 17 => ⟨S2x2048, .f32⟩
  | 18 => ⟨S2x2048x1, .f32⟩
  | 19 => ⟨S2x2048, .f32⟩
  | 20 => ⟨S_, .f32⟩
  | 21 => ⟨S2x2048, .f32⟩
  | 22 => ⟨S2x2048, .f32⟩
  | 23 => ⟨S_, .f32⟩
  | 24 => ⟨S2x2048, .f32⟩
  | 25 => ⟨S2x2048, .f32⟩
  | 26 => ⟨S_, .f32⟩
  | 27 => ⟨S2x2048, .f32⟩
  | 28 => ⟨S2x2048, .f32⟩
  | 29 => ⟨S2x180x180x256, .f32⟩
  | 30 => ⟨S2x2048, .f32⟩
  | 31 => ⟨S2x2048, .i32⟩
  | 32 => ⟨S_, .i32⟩
  | 33 => ⟨S_, .i32⟩
  | 34 => ⟨S_, .i32⟩
  | 35 => ⟨S2x2048, .i32⟩
  | 36 => ⟨S2x2048, .i32⟩
  | 37 => ⟨S_, .i32⟩
  | 38 => ⟨S2x2048, .i32⟩
  | 39 => ⟨S2x2048, .i32⟩
  | 40 => ⟨S2x2048, .f32⟩
  | 41 => ⟨S2x2048, .i32⟩
  | 42 => ⟨S_, .i32⟩
  | 43 => ⟨S2x2048, .i32⟩
  | 44 => ⟨S2x2048, .i32⟩
  | 45 => ⟨S_, .i32⟩
  | 46 => ⟨S_, .i32⟩
  | 47 => ⟨S_, .i32⟩
  | 48 => ⟨S2x2048, .i32⟩
  | 49 => ⟨S2x2048, .i32⟩
  | 50 => ⟨S_, .i32⟩
  | 51 => ⟨S2x2048, .i32⟩
  | 52 => ⟨S2x2048, .i32⟩
  | 53 => ⟨S2x2048, .f32⟩
  | 54 => ⟨S2x2048, .i32⟩
  | 55 => ⟨S_, .i32⟩
  | 56 => ⟨S_, .i32⟩
  | 57 => ⟨S_, .i32⟩
  | 58 => ⟨S2x2048, .i32⟩
  | 59 => ⟨S2x2048, .i32⟩
  | 60 => ⟨S_, .i32⟩
  | 61 => ⟨S2x2048, .i32⟩
  | 62 => ⟨S2x2048, .i32⟩
  | 63 => ⟨S2x2048, .f32⟩
  | 64 => ⟨S2x2048, .i32⟩
  | 65 => ⟨S_, .i32⟩
  | 66 => ⟨S2x2048, .i32⟩
  | 67 => ⟨S2x2048, .i32⟩
  | 68 => ⟨S_, .i32⟩
  | 69 => ⟨S_, .i32⟩
  | 70 => ⟨S_, .i32⟩
  | 71 => ⟨S2x2048, .i32⟩
  | 72 => ⟨S2x2048, .i32⟩
  | 73 => ⟨S_, .i32⟩
  | 74 => ⟨S2x2048, .i32⟩
  | 75 => ⟨S2x2048, .i32⟩
  | 76 => ⟨S_, .i32⟩
  | 77 => ⟨S2x2048, .i32⟩
  | 78 => ⟨S2x2048, .i1⟩
  | 79 => ⟨S_, .i32⟩
  | 80 => ⟨S2x2048, .i32⟩
  | 81 => ⟨S2x2048, .i32⟩
  | 82 => ⟨S2x2048, .i32⟩
  | 83 => ⟨S_, .i32⟩
  | 84 => ⟨S2x2048, .i32⟩
  | 85 => ⟨S2x2048, .i1⟩
  | 86 => ⟨S_, .i32⟩
  | 87 => ⟨S2x2048, .i32⟩
  | 88 => ⟨S2x2048, .i32⟩
  | 89 => ⟨S2x2048, .i32⟩
  | 90 => ⟨S2x2048x1, .i32⟩
  | 91 => ⟨S2x2048x1, .i32⟩
  | 92 => ⟨S2x2048x2, .i32⟩
  | 93 => ⟨S2x2048x256, .f32⟩
  | 94 => ⟨S_, .i32⟩
  | 95 => ⟨S2x2048, .i32⟩
  | 96 => ⟨S2x2048, .i1⟩
  | 97 => ⟨S_, .i32⟩
  | 98 => ⟨S2x2048, .i32⟩
  | 99 => ⟨S2x2048, .i32⟩
  | 100 => ⟨S2x2048, .i32⟩
  | 101 => ⟨S_, .i32⟩
  | 102 => ⟨S2x2048, .i32⟩
  | 103 => ⟨S2x2048, .i1⟩
  | 104 => ⟨S_, .i32⟩
  | 105 => ⟨S2x2048, .i32⟩
  | 106 => ⟨S2x2048, .i32⟩
  | 107 => ⟨S2x2048, .i32⟩
  | 108 => ⟨S2x2048x1, .i32⟩
  | 109 => ⟨S2x2048x1, .i32⟩
  | 110 => ⟨S2x2048x2, .i32⟩
  | 111 => ⟨S2x2048x256, .f32⟩
  | 112 => ⟨S_, .i32⟩
  | 113 => ⟨S2x2048, .i32⟩
  | 114 => ⟨S2x2048, .i1⟩
  | 115 => ⟨S_, .i32⟩
  | 116 => ⟨S2x2048, .i32⟩
  | 117 => ⟨S2x2048, .i32⟩
  | 118 => ⟨S2x2048, .i32⟩
  | 119 => ⟨S_, .i32⟩
  | 120 => ⟨S2x2048, .i32⟩
  | 121 => ⟨S2x2048, .i1⟩
  | 122 => ⟨S_, .i32⟩
  | 123 => ⟨S2x2048, .i32⟩
  | 124 => ⟨S2x2048, .i32⟩
  | 125 => ⟨S2x2048, .i32⟩
  | 126 => ⟨S2x2048x1, .i32⟩
  | 127 => ⟨S2x2048x1, .i32⟩
  | _ => ⟨S2x2048x3, .f32⟩

abbrev hbmTy0_1 (i : Nat) : BufTy := match i % 128 with
  | 0 => ⟨S2x2048x2, .i32⟩
  | 1 => ⟨S2x2048x256, .f32⟩
  | 2 => ⟨S_, .i32⟩
  | 3 => ⟨S2x2048, .i32⟩
  | 4 => ⟨S2x2048, .i1⟩
  | 5 => ⟨S_, .i32⟩
  | 6 => ⟨S2x2048, .i32⟩
  | 7 => ⟨S2x2048, .i32⟩
  | 8 => ⟨S2x2048, .i32⟩
  | 9 => ⟨S_, .i32⟩
  | 10 => ⟨S2x2048, .i32⟩
  | 11 => ⟨S2x2048, .i1⟩
  | 12 => ⟨S_, .i32⟩
  | 13 => ⟨S2x2048, .i32⟩
  | 14 => ⟨S2x2048, .i32⟩
  | 15 => ⟨S2x2048, .i32⟩
  | 16 => ⟨S2x2048x1, .i32⟩
  | 17 => ⟨S2x2048x1, .i32⟩
  | 18 => ⟨S2x2048x2, .i32⟩
  | 19 => ⟨S2x2048x256, .f32⟩
  | 20 => ⟨S2x2048, .f32⟩
  | 21 => ⟨S2x2048, .f32⟩
  | 22 => ⟨S2x2048, .f32⟩
  | 23 => ⟨S2x2048, .f32⟩
  | 24 => ⟨S2x2048, .f32⟩
  | 25 => ⟨S2x2048, .f32⟩
  | 26 => ⟨S2x2048, .f32⟩
  | 27 => ⟨S2x2048, .f32⟩
  | 28 => ⟨S2x2048, .f32⟩
  | 29 => ⟨S2x2048, .f32⟩
  | 30 => ⟨S2x2048, .f32⟩
  | 31 => ⟨S2x2048, .f32⟩
  | 32 => ⟨S2x2048, .f32⟩
  | 33 => ⟨S2x2048, .f32⟩
  | 34 => ⟨S2x2048, .f32⟩
  | 35 => ⟨S2x2048, .f32⟩
  | 36 => ⟨S2x2048, .f32⟩
  | 37 => ⟨S2x2048, .f32⟩
  | 38 => ⟨S2x2048, .f32⟩
  | 39 => ⟨S2x2048, .f32⟩
  | 40 => ⟨S2x2048x1, .f32⟩
  | 41 => ⟨S2x2048x256, .f32⟩
  | 42 => ⟨S2x2048x256, .f32⟩
  | 43 => ⟨S2x2048x1, .f32⟩
  | 44 => ⟨S2x2048x256, .f32⟩
  | 45 => ⟨S2x2048x256, .f32⟩
  | 46 => ⟨S2x2048x256, .f32⟩
  | 47 => ⟨S2x2048x1, .f32⟩
  | 48 => ⟨S2x2048x256, .f32⟩
  | 49 => ⟨S2x2048x256, .f32⟩
  | 50 => ⟨S2x2048x256, .f32⟩
  | 51 => ⟨S2x2048x1, .f32⟩
  | 52 => ⟨S2x2048x256, .f32⟩
  | 53 => ⟨S2x2048x256, .f32⟩
  | 54 => ⟨S2x2048x256, .f32⟩
  | 55 => ⟨S2x2048x1x3, .f32⟩
  | 56 => ⟨S2x1x8192x3, .f32⟩
  | 57 => ⟨S2x2048x8192x3, .f32⟩
  | 58 => ⟨S2x2048x8192x3, .f32⟩
  | 59 => ⟨S2x2048x8192x3, .f32⟩
  | 60 => ⟨S2x2048x8192x3, .f32⟩
  | 61 => ⟨S_, .f32⟩
  | 62 => ⟨S2x2048x8192, .f32⟩
  | 63 => ⟨S2x2048x8192, .f32⟩
  | 64 => ⟨S2x2048x16, .f32⟩
  | 65 => ⟨S2x2048x16, .i32⟩
  | 66 => ⟨S_, .i32⟩
  | 67 => ⟨S2x2048x16, .i32⟩
  | 68 => ⟨S2x2048x16, .i1⟩
  | 69 => ⟨S_, .i32⟩
  | 70 => ⟨S2x2048x16, .i32⟩
  | 71 => ⟨S2x2048x16, .i32⟩
  | 72 => ⟨S2x2048x16, .i32⟩
  | 73 => ⟨S2x2048x16x1, .i32⟩
  | 74 => ⟨S2x2048x16x3, .f32⟩
  | 75 => ⟨S2x2048x1x3, .f32⟩
  | 76 => ⟨S2x2048x16x3, .f32⟩
  | 77 => ⟨S2x2048x16x3, .f32⟩
  | 78 => ⟨S2x2048x16, .f32⟩
  | 79 => ⟨S_, .f32⟩
  | 80 => ⟨S2x2048x16, .f32⟩
  | 81 => ⟨S2x2048x16, .i1⟩
  | 82 => ⟨S2x2048x16x8, .f32⟩
  | 83 => ⟨S_, .f32⟩
  | 84 => ⟨S2x2048x16x8, .f32⟩
  | 85 => ⟨S2x2048x16x8, .f32⟩
  | 86 => ⟨S2x2048x16x16, .f32⟩
  | 87 => ⟨S_, .f32⟩
  | 88 => ⟨S2x2048x16x16, .f32⟩
  | 89 => ⟨S2x2048x16x16, .f32⟩
  | 90 => ⟨S2x2048x16x32, .f32⟩
  | 91 => ⟨S_, .f32⟩
  | 92 => ⟨S2x2048x16x32, .f32⟩
  | 93 => ⟨S2x2048x16x32, .f32⟩
  | 94 => ⟨S2x2048x16x1, .i1⟩
  | 95 => ⟨S_, .f32⟩
  | 96 => ⟨S_, .f32⟩
  | 97 => ⟨S2x2048x16x32, .i1⟩
  | 98 => ⟨S2x2048x16x32, .f32⟩
  | 99 => ⟨S2x2048x16x32, .f32⟩
  | 100 => ⟨S_, .f32⟩
  | 101 => ⟨S2x2048x32, .f32⟩
  | 102 => ⟨S2x2048x288, .f32⟩
  | 103 => ⟨S2x2048x128, .f32⟩
  | 104 => ⟨S_, .f32⟩
  | 105 => ⟨S2x2048x128, .f32⟩
  | 106 => ⟨S2x2048x128, .f32⟩
  | _ => ⟨S2x2048x3, .f32⟩

abbrev hbmTy (i : Nat) : BufTy := match i / 128 with
  | 0 => hbmTy0_0 i
  | 1 => hbmTy0_1 i
  | _ => ⟨S2x2048x3, .f32⟩

abbrev bufTy : (tb : Table) → Fin (tcTables nBuf tb) → BufTy
  | .hbm, ⟨i, _⟩ => hbmTy i
  | _, _ => ⟨S2x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_c_5 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_c_8 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_9 : Ref sig .tc := ⟨.hbm, 55, rfl⟩
abbrev main_c_10 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_c_11 : Ref sig .tc := ⟨.hbm, 65, rfl⟩
abbrev main_v30 : Ref sig .tc := ⟨.hbm, 66, rfl⟩
abbrev main_v31 : Ref sig .tc := ⟨.hbm, 67, rfl⟩
abbrev main_c_12 : Ref sig .tc := ⟨.hbm, 68, rfl⟩
abbrev main_c_13 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v32 : Ref sig .tc := ⟨.hbm, 75, rfl⟩
abbrev main_c_14 : Ref sig .tc := ⟨.hbm, 76, rfl⟩
abbrev main_v33 : Ref sig .tc := ⟨.hbm, 77, rfl⟩
abbrev main_v34 : Ref sig .tc := ⟨.hbm, 78, rfl⟩
abbrev main_c_15 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_c_16 : Ref sig .tc := ⟨.hbm, 83, rfl⟩
abbrev main_v38 : Ref sig .tc := ⟨.hbm, 84, rfl⟩
abbrev main_v39 : Ref sig .tc := ⟨.hbm, 85, rfl⟩
abbrev main_c_17 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_c_18 : Ref sig .tc := ⟨.hbm, 94, rfl⟩
abbrev main_v47 : Ref sig .tc := ⟨.hbm, 95, rfl⟩
abbrev main_v48 : Ref sig .tc := ⟨.hbm, 96, rfl⟩
abbrev main_c_19 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_c_20 : Ref sig .tc := ⟨.hbm, 101, rfl⟩
abbrev main_v52 : Ref sig .tc := ⟨.hbm, 102, rfl⟩
abbrev main_v53 : Ref sig .tc := ⟨.hbm, 103, rfl⟩
abbrev main_c_21 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_c_22 : Ref sig .tc := ⟨.hbm, 112, rfl⟩
abbrev main_v61 : Ref sig .tc := ⟨.hbm, 113, rfl⟩
abbrev main_v62 : Ref sig .tc := ⟨.hbm, 114, rfl⟩
abbrev main_c_23 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_c_24 : Ref sig .tc := ⟨.hbm, 119, rfl⟩
abbrev main_v66 : Ref sig .tc := ⟨.hbm, 120, rfl⟩
abbrev main_v67 : Ref sig .tc := ⟨.hbm, 121, rfl⟩
abbrev main_c_25 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_c_26 : Ref sig .tc := ⟨.hbm, 130, rfl⟩
abbrev main_v75 : Ref sig .tc := ⟨.hbm, 131, rfl⟩
abbrev main_v76 : Ref sig .tc := ⟨.hbm, 132, rfl⟩
abbrev main_c_27 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_c_28 : Ref sig .tc := ⟨.hbm, 137, rfl⟩
abbrev main_v80 : Ref sig .tc := ⟨.hbm, 138, rfl⟩
abbrev main_v81 : Ref sig .tc := ⟨.hbm, 139, rfl⟩
abbrev main_c_29 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_cst_30 : Ref sig .tc := ⟨.hbm, 189, rfl⟩
abbrev main_v130 : Ref sig .tc := ⟨.hbm, 190, rfl⟩
abbrev main_v131 : Ref sig .tc := ⟨.hbm, 191, rfl⟩
abbrev main_values : Ref sig .tc := ⟨.hbm, 192, rfl⟩
abbrev main_indices : Ref sig .tc := ⟨.hbm, 193, rfl⟩
abbrev main_c_31 : Ref sig .tc := ⟨.hbm, 194, rfl⟩
abbrev main_v132 : Ref sig .tc := ⟨.hbm, 195, rfl⟩
abbrev main_v133 : Ref sig .tc := ⟨.hbm, 196, rfl⟩
abbrev main_c_32 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_cst_33 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_call4_cst : Ref sig .tc := ⟨.hbm, 211, rfl⟩
abbrev main_call4_v0 : Ref sig .tc := ⟨.hbm, 212, rfl⟩
abbrev main_v146 : Ref sig .tc := ⟨.hbm, 213, rfl⟩
abbrev main_v147 : Ref sig .tc := ⟨.hbm, 214, rfl⟩
abbrev main_call5_cst : Ref sig .tc := ⟨.hbm, 215, rfl⟩
abbrev main_call5_v0 : Ref sig .tc := ⟨.hbm, 216, rfl⟩
abbrev main_v148 : Ref sig .tc := ⟨.hbm, 217, rfl⟩
abbrev main_v149 : Ref sig .tc := ⟨.hbm, 218, rfl⟩
abbrev main_call6_cst : Ref sig .tc := ⟨.hbm, 219, rfl⟩
abbrev main_call6_v0 : Ref sig .tc := ⟨.hbm, 220, rfl⟩
abbrev main_v150 : Ref sig .tc := ⟨.hbm, 221, rfl⟩
abbrev main_v151 : Ref sig .tc := ⟨.hbm, 222, rfl⟩
abbrev main_cst_34 : Ref sig .tc := ⟨.hbm, 223, rfl⟩
abbrev main_call7_v0 : Ref sig .tc := ⟨.hbm, 224, rfl⟩
abbrev main_call7_v1 : Ref sig .tc := ⟨.hbm, 225, rfl⟩
abbrev main_call7_v2 : Ref sig .tc := ⟨.hbm, 226, rfl⟩
abbrev main_v152 : Ref sig .tc := ⟨.hbm, 227, rfl⟩
abbrev main_cst_35 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_call8_cst : Ref sig .tc := ⟨.hbm, 232, rfl⟩
abbrev main_call8_v0 : Ref sig .tc := ⟨.hbm, 233, rfl⟩
abbrev main_v156 : Ref sig .tc := ⟨.hbm, 234, rfl⟩

abbrev nD : Nat := 1
abbrev τ : Topo := Topo.v7x

variable {F : FTy → Type} [FloatOps F]
-- ==== Proof.Select.lean ====
/- Sixteen nearest points chosen two ways: by a stable sort of the distances, and by repeatedly taking the first
   smallest distance and overwriting it. The pure facts, over any list of extended reals. -/
module

public import Idealize.ShloMosaic.Lib.SortPrefix
public import Idealize.ShloMosaic.PureOps.Ideal
public import Idealize.ShloMosaic.PureOps.Reduce

@[expose] public section

noncomputable section

namespace Cert.Select

open Idealize Idealize.ShloMosaic

variable {n : ℕ}

/-! ## The stable sort -/

/-- The order of a stable sort of the keys `d`: the smaller key first, and of two equal keys the smaller position. -/
def before (d : Fin n → EReal) (k q : Fin n) : Prop := d k < d q ∨ (d k = d q ∧ k < q)

/-- The same order as a Boolean. -/
def lexBefore (d : Fin n → EReal) (k q : Fin n) : Bool :=
  decide (d k < d q) || (decide (d k = d q) && decide (k < q))

theorem lexBefore_iff (d : Fin n → EReal) (k q : Fin n) : lexBefore d k q = true ↔ before d k q := by
  simp [lexBefore, before]

/-- The order is total and strict. -/
theorem lexBefore_strict (d : Fin n → EReal) : StrictTotalBefore (lexBefore d) :=
  StrictTotalBefore.of_key_then_position (fun a b : EReal => decide (a < b)) d (by simp)
    (fun a b c hab hbc => by
      simp only [decide_eq_true_eq] at hab hbc ⊢; exact hab.trans hbc)
    (fun a b => by simpa using lt_trichotomy a b)

/-- On an increasing list of positions, sorting by the key alone is sorting by the key and then the position. -/
theorem stableSort_key (d : Fin n → EReal) (l : List (Fin n)) (hl : l.Pairwise (· < ·)) :
    stableSort (fun k q => decide (d k < d q)) l = stableSort (lexBefore d) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [lexBefore, hab.le.not_gt]

/-- The position the stable sort by key puts in place `j`. -/
def order (d : Fin n → EReal) : Fin n → Fin n := sortedFrom fun k q => decide (d k < d q)

theorem order_eq (d : Fin n → EReal) : order d = sortedFrom (lexBefore d) := by
  funext j
  unfold order sortedFrom
  have h : sortPositions n (fun k q => decide (d k < d q)) = sortPositions n (lexBefore d) :=
    stableSort_key d _ (List.pairwise_lt_finRange n)
  rw [List.get_of_eq h]
  rfl

/-- No position is put in two places. -/
theorem order_injective (d : Fin n → EReal) : Function.Injective (order d) := sortedFrom_injective _

/-- Every position is put somewhere. -/
theorem order_surjective (d : Fin n → EReal) : Function.Surjective (order d) := sortedFrom_surjective _

/-- An earlier place holds a smaller key, or an equal key at a smaller position. -/
theorem order_before (d : Fin n → EReal) (i j : Fin n) (hij : i < j) : before d (order d i) (order d j) := by
  have hs := lexBefore_strict d
  have h : lexBefore d (order d j) (order d i) = false := by
    rw [order_eq]
    exact sortedFrom_noInversion (lexBefore d) (lexBefore d) (fun a b h => hs.asymm a b h) (fun _ _ h => h)
      hs.negTrans i j hij
  rcases hs.total (order d i) (order d j) (fun e => hij.ne (order_injective d e)) with h' | h'
  · exact (lexBefore_iff d _ _).mp h'
  · rw [h] at h'; exact absurd h' (by decide)

/-! ## The first smallest distance -/

/-- `k` is the first position of the smallest value of `D`. -/
def IsFirst (D : Fin n → EReal) (k : Fin n) : Prop := ∀ q, q ≠ k → before D k q

/-- The smallest value of `D`. -/
def minOf (D : Fin n → EReal) : EReal := Finset.univ.fold min ⊤ D

/-- The first position of the smallest value of `D`, as a word. -/
def minPos (D : Fin n → EReal) : BitVec 32 :=
  Finset.univ.fold IntOp.minsi 2147483647#32 fun k => if D k = minOf D then BitVec.ofNat 32 k.val else BitVec.ofNat 32 n

theorem IsFirst.le {D : Fin n → EReal} {k : Fin n} (h : IsFirst D k) (q : Fin n) : D k ≤ D q := by
  by_cases e : q = k
  · rw [e]
  · rcases h q e with h | h
    · exact h.le
    · exact h.1.le

theorem le_minOf (D : Fin n → EReal) (c : EReal) : c ≤ minOf D ↔ ∀ q, c ≤ D q := by
  unfold minOf; rw [Finset.le_fold_min]; simp

theorem IsFirst.minOf {D : Fin n → EReal} {k : Fin n} (h : IsFirst D k) : minOf D = D k :=
  le_antisymm ((le_minOf D _).mp le_rfl k) ((le_minOf D _).mpr h.le)

/-- The signed minimum of two words is one of them, and at most each. -/
theorem minsi_cases (a b : BitVec 32) :
    (IntOp.minsi a b = a ∨ IntOp.minsi a b = b) ∧ (IntOp.minsi a b).toInt ≤ a.toInt ∧ (IntOp.minsi a b).toInt ≤ b.toInt := by
  unfold IntOp.minsi
  split
  · rename_i h
    simp only [BitVec.slt, decide_eq_true_eq] at h
    exact ⟨.inl rfl, le_rfl, h.le⟩
  · rename_i h
    simp only [BitVec.slt, decide_eq_true_eq, not_lt] at h
    exact ⟨.inr rfl, h, le_rfl⟩

/-- A fold of the signed minimum is one of the words folded, and at most each. -/
theorem fold_minsi {ι : Type} [DecidableEq ι] (b : BitVec 32) (f : ι → BitVec 32) (s : Finset ι) :
    (s.fold IntOp.minsi b f = b ∨ ∃ i ∈ s, s.fold IntOp.minsi b f = f i)
      ∧ ∀ i ∈ s, (s.fold IntOp.minsi b f).toInt ≤ (f i).toInt := by
  induction s using Finset.induction_on with
  | empty => simp
  | insert a s ha ih =>
    rw [Finset.fold_insert ha]
    obtain ⟨hc, h1, h2⟩ := minsi_cases (f a) (s.fold IntOp.minsi b f)
    refine ⟨?_, fun i hi => ?_⟩
    · rcases hc with hc | hc
      · exact .inr ⟨a, Finset.mem_insert_self _ _, hc⟩
      · rw [hc]
        rcases ih.1 with h | ⟨i, hi, h⟩
        · exact .inl h
        · exact .inr ⟨i, Finset.mem_insert_of_mem hi, h⟩
    · rcases Finset.mem_insert.mp hi with rfl | hi
      · exact h1
      · exact h2.trans (ih.2 i hi)

theorem toInt_ofNat (k : ℕ) (hk : k < 2147483647) : (BitVec.ofNat 32 k).toInt = (k : ℤ) := by
  rw [BitVec.toInt_ofNat']
  exact Int.bmod_eq_of_le (by omega) (by omega)

/-- The word found is the first position of the smallest value. -/
theorem IsFirst.minPos {D : Fin n → EReal} {k : Fin n} (h : IsFirst D k) (hn : n < 2147483647) :
    minPos D = BitVec.ofNat 32 k.val := by
  obtain ⟨hc, hle⟩ := fold_minsi 2147483647#32
    (fun q : Fin n => if D q = Select.minOf D then BitVec.ofNat 32 q.val else BitVec.ofNat 32 n) Finset.univ
  have hk := hle k (Finset.mem_univ k)
  have hkn := k.isLt
  rw [if_pos h.minOf.symm, toInt_ofNat _ (by omega)] at hk
  show Finset.fold _ _ _ _ = _
  rcases hc with hc | ⟨i, -, hc⟩
  · rw [hc] at hk
    have : (2147483647#32).toInt = 2147483647 := by decide
    omega
  · rw [hc] at hk ⊢
    by_cases hi : D i = Select.minOf D
    · simp only [hi, if_true] at hk ⊢
      have hin := i.isLt
      rw [toInt_ofNat _ (by omega)] at hk
      by_cases e : i = k
      · rw [e]
      · exfalso
        rcases h i e with h' | h'
        · rw [hi, h.minOf] at h'; exact lt_irrefl _ h'
        · have : k.val < i.val := h'.2
          omega
    · simp only [hi, if_false] at hk ⊢
      rw [toInt_ofNat _ hn] at hk
      omega

theorem ofNat_inj {a b : ℕ} (ha : a < 2147483647) (hb : b < 2147483647) :
    BitVec.ofNat 32 a = BitVec.ofNat 32 b ↔ a = b := by
  constructor
  · intro h
    have := congrArg BitVec.toInt h
    rw [toInt_ofNat a ha, toInt_ofNat b hb] at this
    omega
  · rintro rfl; rfl

/-! ## The walk: take the first smallest distance, overwrite it, repeat -/

/-- The distances after `j` steps: each step writes `big` over the first smallest. -/
def walkD (big : EReal) (d : Fin n → EReal) : ℕ → Fin n → EReal
  | 0 => d
  | j + 1 => fun q => if BitVec.ofNat 32 q.val = minPos (walkD big d j) then big else walkD big d j q

/-- The pooled value after `j` steps: each step takes the greater of it and the found point's value `c`, or of it and 0
    when the found distance exceeds `r`. -/
def walkP (big r : EReal) (d : Fin n → EReal) (c : BitVec 32 → EReal) : ℕ → EReal
  | 0 => 0
  | j + 1 => max (walkP big r d c j) (if minOf (walkD big d j) ≤ r then c (minPos (walkD big d j)) else 0)

/-- The pooled value over the first `j` places of the stable sort. -/
def sortP (r : EReal) (d : Fin n → EReal) (e : Fin n → EReal) : ℕ → EReal
  | 0 => 0
  | j + 1 => max (sortP r d e j)
      (if h : j < n then (if d (order d ⟨j, h⟩) ≤ r then e (order d ⟨j, h⟩) else 0) else 0)

/-- What the distances are after `j` steps: either all found so far are within `r`, and they are the first `j` of the
    sort, overwritten; or one was beyond `r`, and everything left is beyond. -/
def WalkInv (big r : EReal) (d : Fin n → EReal) (j : ℕ) : Prop :=
  ((∀ i : Fin n, i.val < j → d (order d i) ≤ r)
      ∧ ∀ i : Fin n, walkD big d j (order d i) = if i.val < j then big else d (order d i))
  ∨ ((∃ i : Fin n, i.val < j ∧ ¬ d (order d i) ≤ r) ∧ ∀ q, ¬ walkD big d j q ≤ r)

/-- In the first case, with the next distance within `r`, the next found is the next of the sort. -/
theorem isFirst_next {big r : EReal} (hr : r < big) {d : Fin n → EReal} {j : ℕ} (hj : j < n)
    (hD : ∀ i : Fin n, walkD big d j (order d i) = if i.val < j then big else d (order d i))
    (hd : d (order d ⟨j, hj⟩) ≤ r) : IsFirst (walkD big d j) (order d ⟨j, hj⟩) := by
  intro q hq
  obtain ⟨i, rfl⟩ := order_surjective d q
  have e : walkD big d j (order d ⟨j, hj⟩) = d (order d ⟨j, hj⟩) := by rw [hD]; simp
  unfold before
  rw [e, hD i]
  by_cases hi : i.val < j
  · rw [if_pos hi]; exact .inl (hd.trans_lt hr)
  · rw [if_neg hi]
    have hne : i ≠ ⟨j, hj⟩ := fun e => hq (by rw [e])
    have hlt : (⟨j, hj⟩ : Fin n) < i := by
      rw [Fin.lt_def]
      have : i.val ≠ j := fun e => hne (Fin.ext e)
      show j < i.val
      omega
    exact order_before d _ _ hlt

theorem order_le (d : Fin n → EReal) {i j : Fin n} (h : i ≤ j) : d (order d i) ≤ d (order d j) := by
  rcases h.eq_or_lt with rfl | h
  · exact le_rfl
  · rcases order_before d i j h with h | h
    · exact h.le
    · exact h.1.le

/-- Once everything left is beyond `r` it stays so. -/
theorem beyond_step {big r : EReal} (hr : r < big) {d : Fin n → EReal} {j : ℕ} (h : ∀ q, ¬ walkD big d j q ≤ r) (q : Fin n) :
    ¬ walkD big d (j + 1) q ≤ r := by
  show ¬ (if _ then big else walkD big d j q) ≤ r
  split
  · exact not_le.mpr hr
  · exact h q

theorem beyond_min {big r : EReal} (hrt : r < ⊤) {d : Fin n → EReal} {j : ℕ} (h : ∀ q, ¬ walkD big d j q ≤ r) :
    ¬ minOf (walkD big d j) ≤ r := by
  intro hle
  unfold minOf at hle
  rw [Finset.fold_min_le] at hle
  rcases hle with hle | ⟨q, -, hle⟩
  · exact absurd hrt (not_lt.mpr hle)
  · exact h q hle

/-- When the next distance of the sort is beyond `r`, everything left is. -/
theorem beyond_of_next {big r : EReal} (hr : r < big) {d : Fin n → EReal} {j : ℕ} (hj : j < n)
    (hD : ∀ i : Fin n, walkD big d j (order d i) = if i.val < j then big else d (order d i))
    (hd : ¬ d (order d ⟨j, hj⟩) ≤ r) (q : Fin n) : ¬ walkD big d j q ≤ r := by
  obtain ⟨i, rfl⟩ := order_surjective d q
  rw [hD i]
  split
  · exact not_le.mpr hr
  · rename_i hi
    intro hle
    exact hd ((order_le d (i := ⟨j, hj⟩) (j := i) (by rw [Fin.le_def]; exact not_lt.mp hi)).trans hle)

theorem walkInv {big r : EReal} (hr : r < big) (d : Fin n → EReal) (hn : n < 2147483647) (j : ℕ) (hj : j ≤ n) :
    WalkInv big r d j := by
  induction j with
  | zero => exact .inl ⟨fun i h => absurd h (Nat.not_lt_zero _), fun i => by simp [walkD]⟩
  | succ j ih =>
    have hj' : j < n := hj
    rcases ih hj'.le with ⟨hin, hD⟩ | ⟨⟨i, hi, hout⟩, hall⟩
    · by_cases hd : d (order d ⟨j, hj'⟩) ≤ r
      · refine .inl ⟨fun i hi => ?_, fun i => ?_⟩
        · rcases Nat.lt_succ_iff_lt_or_eq.mp hi with h | h
          · exact hin i h
          · have : i = ⟨j, hj'⟩ := Fin.ext h
            rw [this]; exact hd
        · have hp := (isFirst_next hr hj' hD hd).minPos hn
          show (if _ then big else walkD big d j (order d i)) = _
          have h1 := (order d i).isLt
          have h2 := (order d ⟨j, hj'⟩).isLt
          simp only [hp, ofNat_inj (show (order d i).val < 2147483647 by omega) (show (order d ⟨j, hj'⟩).val < 2147483647 by omega), hD i]
          by_cases e : i = ⟨j, hj'⟩
          · subst e; simp
          · have hne : (order d i).val ≠ (order d ⟨j, hj'⟩).val := fun h => e (order_injective d (Fin.ext h))
            have hij : i.val ≠ j := fun h => e (Fin.ext h)
            rw [if_neg hne]
            by_cases hlt : i.val < j
            · rw [if_pos hlt, if_pos (by omega)]
            · rw [if_neg hlt, if_neg (by omega)]
      · exact .inr ⟨⟨⟨j, hj'⟩, Nat.lt_succ_self _, hd⟩, beyond_step hr (beyond_of_next hr hj' hD hd)⟩
    · exact .inr ⟨⟨i, hi.trans (Nat.lt_succ_self _), hout⟩, beyond_step hr hall⟩

/-- The walk pools what the sort pools, when a found point within `r` counts the same in both. -/
theorem walkP_eq_sortP {big r : EReal} (hr : r < big) (d : Fin n → EReal) (hn : n < 2147483647) (c : BitVec 32 → EReal)
    (e : Fin n → EReal) (hce : ∀ k : Fin n, d k ≤ r → c (BitVec.ofNat 32 k.val) = e k) (j : ℕ) (hj : j ≤ n) :
    walkP big r d c j = sortP r d e j := by
  induction j with
  | zero => rfl
  | succ j ih =>
    have hj' : j < n := hj
    unfold walkP sortP
    rw [ih hj'.le, dif_pos hj']
    congr 1
    rcases walkInv hr d hn j hj'.le with ⟨-, hD⟩ | ⟨⟨i, hi, hout⟩, hall⟩
    · by_cases hd : d (order d ⟨j, hj'⟩) ≤ r
      · have hf := isFirst_next hr hj' hD hd
        have hv : walkD big d j (order d ⟨j, hj'⟩) = d (order d ⟨j, hj'⟩) := by rw [hD]; simp
        rw [hf.minOf, hf.minPos hn, hv, if_pos hd, if_pos hd, hce _ hd]
      · rw [if_neg hd, if_neg (beyond_min (hr.trans_le le_top) (beyond_of_next hr hj' hD hd))]
    · rw [if_neg (beyond_min (hr.trans_le le_top) hall), if_neg]
      intro hle
      exact hout ((order_le d (i := i) (j := ⟨j, hj'⟩) (by rw [Fin.le_def]; exact hi.le)).trans hle)

theorem sortP_le {r : EReal} (d e : Fin n → EReal) (m : ℕ) (hm : m ≤ n) (c : EReal) :
    sortP r d e m ≤ c ↔ 0 ≤ c ∧ ∀ j : Fin m,
      (if d (order d (j.castLE hm)) ≤ r then e (order d (j.castLE hm)) else 0) ≤ c := by
  induction m with
  | zero => simp [sortP]
  | succ m ih =>
    have hm' : m < n := hm
    unfold sortP
    rw [max_le_iff, ih hm'.le, dif_pos hm', Fin.forall_fin_succ', and_assoc]
    rfl

/-- The pooled value over the sort is the greatest of the values, when there is at least one and none is negative. -/
theorem sortP_eq_fold {r : EReal} (d e : Fin n → EReal) (m : ℕ) (hm : m ≤ n) (hpos : 0 < m) (he : ∀ k, 0 ≤ e k) :
    sortP r d e m = Finset.univ.fold max ⊥ fun j : Fin m =>
      if d (order d (j.castLE hm)) ≤ r then e (order d (j.castLE hm)) else 0 := by
  refine eq_of_forall_ge_iff fun c => ?_
  rw [sortP_le d e m hm, Finset.fold_max_le]
  simp only [bot_le, true_and, Finset.mem_univ, forall_true_left]
  refine and_iff_right_of_imp fun h => le_trans ?_ (h ⟨0, hpos⟩)
  split
  · exact he _
  · exact le_rfl

/-- The walk pools the greatest of the values of the sort's first `m` places. -/
theorem walkP_eq_fold {big r : EReal} (hr : r < big) (d : Fin n → EReal) (hn : n < 2147483647) (c : BitVec 32 → EReal)
    (e : Fin n → EReal) (hce : ∀ k : Fin n, d k ≤ r → c (BitVec.ofNat 32 k.val) = e k) (he : ∀ k, 0 ≤ e k)
    (m : ℕ) (hm : m ≤ n) (hpos : 0 < m) :
    walkP big r d c m = Finset.univ.fold max ⊥ fun j : Fin m =>
      if d (order d (j.castLE hm)) ≤ r then e (order d (j.castLE hm)) else 0 :=
  (walkP_eq_sortP hr d hn c e hce m hm).trans (sortP_eq_fold d e m hm hpos he)

end Cert.Select

end
-- ==== Proof.Words.lean ====
/- The float words the two programs name, as extended reals, and the layers of the small network. -/
module

public import Idealize.ShloMosaic.Lib.Pointwise

@[expose] public section

noncomputable section

namespace Cert.Words

open Idealize Idealize.ShloMosaic

/-- The word of +∞. -/
theorem top_word : Ideal.ofBits .f32 0x7F800000#32 = (⊤ : EReal) := by
  simp [Ideal.ofBits, Ideal.ieee, -EReal.coe_mul]

/-- The word of −∞. -/
theorem bot_word : Ideal.ofBits .f32 0xFF800000#32 = (⊥ : EReal) := by
  simp [Ideal.ofBits, Ideal.ieee, -EReal.coe_mul]

/-- The squared radius, 4. -/
abbrev rsq : EReal := Ideal.ofBits .f32 0x40800000#32

/-- The value written over a distance once its point is taken, near 3·10³⁸. -/
abbrev big : EReal := Ideal.ofBits .f32 0x7F61B1E6#32

theorem rsq_eq : rsq = ((4 : ℝ) : EReal) := by
  unfold rsq
  simp [Ideal.ofBits, Ideal.ieee, -EReal.coe_mul]; norm_num

/-- The overwriting value is beyond the radius. -/
theorem rsq_lt_big : rsq < big := by
  rw [rsq_eq]
  unfold big
  simp [Ideal.ofBits, Ideal.ieee, -EReal.coe_mul]; norm_num

/-- The width of one step of the grid of map cells, near 0.8. -/
theorem word_08 : ∃ a : ℝ, a ≠ 0 ∧ Ideal.ofBits .f32 0x3F4CCCCD#32 = (a : EReal)
    ∧ Ideal.ofBits .f32 0x3DCCCCCD#32 = ((a / 8 : ℝ) : EReal) ∧ Ideal.ofBits .f32 0x41000000#32 = ((8 : ℝ) : EReal) := by
  refine ⟨13421773 * (2 : ℝ) ^ (-24 : ℤ), by positivity, ?_, ?_, ?_⟩ <;>
    · simp [Ideal.ofBits, Ideal.ieee, -EReal.coe_mul]; try norm_num

/-- Dividing by 0.1 and then by 8 is dividing by 0.8: the word of 0.8 is eight times the word of 0.1. -/
theorem div_div (x : EReal) :
    Ideal.div (Ideal.div x (Ideal.ofBits .f32 0x3DCCCCCD#32)) (Ideal.ofBits .f32 0x41000000#32)
      = Ideal.div x (Ideal.ofBits .f32 0x3F4CCCCD#32) := by
  obtain ⟨a, ha, h1, h2, h3⟩ := word_08
  rw [h1, h2, h3, Ideal.div_coe (div_ne_zero ha (by norm_num)), Ideal.div_coe (by norm_num), Ideal.div_coe ha, mul_assoc,
    ← EReal.coe_mul]
  congr 2
  field_simp

/-- The squared distance of two points. -/
def dist2 (a p : Fin 3 → EReal) : EReal :=
  (a 0 - p 0) * (a 0 - p 0) + (a 1 - p 1) * (a 1 - p 1) + (a 2 - p 2) * (a 2 - p 2)

/-- The network after its first layer's weights: a clamp at 0 before, between and after the two other layers. -/
def net (w2 : (⟨2, ![8, 16]⟩ : Shape).Idx → EReal) (w3 : (⟨2, ![16, 32]⟩ : Shape).Idx → EReal) (z : Fin 8 → EReal)
    (o : Fin 32) : EReal :=
  max (∑ l, max (∑ k, max (z k) 0 * w2 (ix2 k l)) 0 * w3 (ix2 l o)) 0

theorem net_nonneg (w2 : (⟨2, ![8, 16]⟩ : Shape).Idx → EReal) (w3 : (⟨2, ![16, 32]⟩ : Shape).Idx → EReal)
    (z : Fin 8 → EReal) (o : Fin 32) : 0 ≤ net w2 w3 z o := le_max_right _ _

end Cert.Words

end
-- ==== Proof.Payload.lean ====
/- The values of one grid point's body read at an index: the squared distances, the smallest of a row and where it is,
   one step of the loop, and the fused row. -/
module

public import proofs.«01_k».proof.Proof.Gen.KernelIdeal.Skeleton
public import proofs.«01_k».proof.Proof.Select
public import proofs.«01_k».proof.Proof.Words

@[expose] public section

set_option maxRecDepth 16384

noncomputable section

namespace Cert.Payload

open Idealize Idealize.ShloMosaic Cert.KernelIdeal Cert.KernelIdeal.Gen Cert.Select Cert.Words

/-- The positions of a row, as the body counts them. -/
abbrev places : IVec S256x8192 32 := iota .tc S256x8192 32 [1] iota_S256x8192_d1_w32

/-- Row `r` of the carried distances. -/
def row (D : FVec Ideal S256x8192 .f32) (r : Fin 256) : Fin 8192 → EReal := fun q => D (ix2 r q)

/-- The row's minimum. -/
theorem rowMin (D : FVec Ideal S256x8192 .f32) (r : Fin 256) : k0_pay1 D (ix2 r 0) = minOf (row D r) := by
  pointwise [k0_pay1]
  rw [top_word]; rfl

/-- The mask of the position found: 1 at the first smallest distance of the row. -/
theorem found (D : FVec Ideal S256x8192 .f32) (r : Fin 256) (q : Fin 8192) :
    k0_pay2 places D (ix2 r q) = if BitVec.ofNat 32 q.val = minPos (row D r) then 1#1 else 0#1 := by
  pointwise [k0_pay2, k0_pay1]
  rw [top_word]
  show IntOp.cmpi .eq (BitVec.ofNat 32 q.val) (minPos (row D r)) = _
  by_cases h : BitVec.ofNat 32 q.val = minPos (row D r)
  · rw [if_pos h, h]; simp [IntOp.cmpi]
  · rw [if_neg h]
    show BitVec.ofBool (BitVec.ofNat 32 q.val == minPos (row D r)) = 0#1
    rw [beq_eq_false_iff_ne.mpr h]; rfl

/-- The distances after one step: the overwriting value at the position found. -/
theorem stepD (D : FVec Ideal S256x8192 .f32) (r : Fin 256) (q : Fin 8192) :
    k0_pay4 places (FloatOps.ofBits (F := Ideal) .f32 0x7F61B1E6#32) D (ix2 r q)
      = if BitVec.ofNat 32 q.val = minPos (row D r) then big else row D r q := by
  pointwise [k0_pay4]
  rw [found]
  by_cases h : BitVec.ofNat 32 q.val = minPos (row D r)
  · simp [h, Scalar.select, row]
  · simp [h, Scalar.select, row]

/-- The first layer at the position word `w`: the row of `pw` that the mask picks, less the key point's. -/
def layer1 (pw : FVec Ideal S8192x8 .f32) (kw : FVec Ideal S256x8 .f32) (r : Fin 256) (w : BitVec 32) (k : Fin 8) : EReal :=
  (∑ q : Fin 8192, (if BitVec.ofNat 32 q.val = w then (1 : EReal) else 0) * pw (ix2 q k)) - kw (ix2 r k)

/-- At the word of a position the first layer reads that position's row. -/
theorem layer1_at (pw : FVec Ideal S8192x8 .f32) (kw : FVec Ideal S256x8 .f32) (r : Fin 256) (q : Fin 8192) (k : Fin 8) :
    layer1 pw kw r (BitVec.ofNat 32 q.val) k = pw (ix2 q k) - kw (ix2 r k) := by
  unfold layer1
  congr 1
  rw [Finset.sum_eq_single q]
  · simp
  · intro b _ hb
    have h1 := b.isLt
    have h2 := q.isLt
    have hne : ¬ BitVec.ofNat 32 b.val = BitVec.ofNat 32 q.val := by
      rw [ofNat_inj (by omega) (by omega)]
      exact fun h => hb (Fin.ext h)
    rw [if_neg hne, zero_mul]
  · intro h; exact absurd (Finset.mem_univ q) h

/-- The pooled row after one step. -/
theorem stepP (w2 : Vec Ideal S8x16 .f32) (w3 : Vec Ideal S16x32 .f32) (pw : FVec Ideal S8192x8 .f32)
    (kw : FVec Ideal S256x8 .f32) (D : FVec Ideal S256x8192 .f32) (P : FVec Ideal S256x32 .f32) (r : Fin 256) (o : Fin 32) :
    k0_pay3 w2 w3 pw kw places D P (ix2 r o)
      = max (P (ix2 r o)) (if minOf (row D r) ≤ rsq then net w2 w3 (layer1 pw kw r (minPos (row D r))) o else 0) := by
  have hm : ∀ q : Fin 8192, FloatOps.sitofp (F := Ideal) .f32 (BitVec.setWidth 32 (k0_pay2 places D (ix2 r q)))
      = if BitVec.ofNat 32 q.val = minPos (row D r) then (1 : EReal) else 0 := by
    intro q
    rw [found]
    split
    · show (((BitVec.setWidth 32 1#1).toInt : ℝ) : EReal) = 1
      rw [show (BitVec.setWidth 32 1#1).toInt = 1 from by decide]; norm_num
    · show (((BitVec.setWidth 32 0#1).toInt : ℝ) : EReal) = 0
      rw [show (BitVec.setWidth 32 0#1).toInt = 0 from by decide]; norm_num
  pointwise [k0_pay3]
  simp only [rowMin, hm]
  rfl

/-- The squared distance of key point `r` of the block to point `q`. -/
theorem distances (kp : Vec Ideal S1x3x256 .f32) (p : Vec Ideal S1x3x8192 .f32) (r : Fin 256) (q : Fin 8192) :
    k0_pay8 kp p (ix2 r q) = dist2 (fun c => kp (ix3 0 c r)) (fun c => p (ix3 0 c q)) := by
  pointwise [k0_pay8, k0_pay6, k0_pay7]
  rfl

/-- The points through the first layer's weights. -/
theorem pointLayer (p : Vec Ideal S1x3x8192 .f32) (w1 : Vec Ideal S3x8 .f32) (q : Fin 8192) (k : Fin 8) :
    k0_pay9 p w1 (ix2 q k) = ∑ c, p (ix3 0 c q) * w1 (ix2 c k) := by
  pointwise [k0_pay9, k0_pay7]

/-- The key points through the first layer's weights. -/
theorem keyLayer (kp : Vec Ideal S1x3x256 .f32) (w1 : Vec Ideal S3x8 .f32) (r : Fin 256) (k : Fin 8) :
    k0_pay10 kp w1 (ix2 r k) = ∑ c, kp (ix3 0 c r) * w1 (ix2 c k) := by
  pointwise [k0_pay10, k0_pay6]

/-- The pooled rows start at 0. -/
theorem startP (j : S256x32.Idx) : (k0_pay11 (F := Ideal)) j = 0 := by
  pointwise [k0_pay11]

/-- The row stored: the map features and the pooled features through their weights, added and clamped at 0. -/
theorem fused (P : FVec Ideal S256x32 .f32) (bev : Vec Ideal S1x256x256 .f32) (wa : Vec Ideal S256x128 .f32)
    (wb : Vec Ideal S32x128 .f32) (u : Fin 1) (r : Fin 256) (o : Fin 128) :
    k0_pay5 P bev wa wb (ix3 u r o)
      = max ((∑ x, bev (ix3 0 r x) * wa (ix2 x o)) + ∑ x, P (ix2 r x) * wb (ix2 x o)) 0 := by
  pointwise [k0_pay5]

end Cert.Payload

end
-- ==== Proof.Block.lean ====
/- One grid point's block, from the blocks it reads: the loop is 16 steps of the minimum walk on every row. -/
module

public import proofs.«01_k».proof.Proof.Payload
public import Idealize.ShloMosaic.Lib.Exec.Context

@[expose] public section

set_option maxRecDepth 16384

noncomputable section

namespace Cert.Block

open Idealize Idealize.ShloMosaic Cert.KernelIdeal Cert.KernelIdeal.Gen Cert.Select Cert.Words Cert.Payload

/-- The two carried arrays: distances and pooled rows. -/
abbrev State : Type := FVec Ideal S256x8192 .f32 × FVec Ideal S256x32 .f32

/-- A row read at a position. -/
theorem row_apply (D : FVec Ideal S256x8192 .f32) (r : Fin 256) (q : Fin 8192) : row D r q = D (ix2 r q) := rfl

section loop

variable (w2 : Vec Ideal S8x16 .f32) (w3 : Vec Ideal S16x32 .f32) (pw : FVec Ideal S8192x8 .f32) (kw : FVec Ideal S256x8 .f32)

/-- One step of the loop. -/
def step (s : State) : State :=
  (k0_pay4 places (FloatOps.ofBits (F := Ideal) .f32 0x7F61B1E6#32) s.1, k0_pay3 w2 w3 pw kw places s.1 s.2)

/-- The first component of a step. -/
theorem step_fst (s : State) : (step w2 w3 pw kw s).1 = k0_pay4 places (FloatOps.ofBits (F := Ideal) .f32 0x7F61B1E6#32) s.1 := by
  simp only [step]

/-- The second component of a step. -/
theorem step_snd (s : State) : (step w2 w3 pw kw s).2 = k0_pay3 w2 w3 pw kw places s.1 s.2 := by
  simp only [step]

/-- The distances of a row after one step. -/
theorem step_row (s : State) (r : Fin 256) (q : Fin 8192) : row (step w2 w3 pw kw s).1 r q
    = if BitVec.ofNat 32 q.val = minPos (row s.1 r) then big else row s.1 r q := by
  rw [row_apply, step_fst, stepD]

/-- The pooled row after one step. -/
theorem step_pool (s : State) (r : Fin 256) (o : Fin 32) : (step w2 w3 pw kw s).2 (ix2 r o)
    = max (s.2 (ix2 r o)) (if minOf (row s.1 r) ≤ rsq then net w2 w3 (layer1 pw kw r (minPos (row s.1 r))) o else 0) := by
  rw [step_snd, stepP]

/-- The distances after `j` steps are the walk's. -/
theorem steps_row (s : State) (r : Fin 256) (j : ℕ) : row ((step w2 w3 pw kw)^[j] s).1 r = walkD big (row s.1 r) j := by
  induction j with
  | zero => rfl
  | succ j ih =>
    rw [Function.iterate_succ_apply']
    funext q
    rw [step_row, ih]
    rfl

/-- The pooled rows after `j` steps are the walk's. -/
theorem steps_pool (D : FVec Ideal S256x8192 .f32) (r : Fin 256) (o : Fin 32) (j : ℕ) :
    ((step w2 w3 pw kw)^[j] (D, k0_pay11)).2 (ix2 r o)
      = walkP big rsq (row D r) (fun w => net w2 w3 (layer1 pw kw r w) o) j := by
  induction j with
  | zero => exact startP (ix2 r o)
  | succ j ih =>
    rw [Function.iterate_succ_apply']
    rw [step_pool, ih, steps_row]
    rfl

/-- The loop runs 16 steps. -/
theorem loop_eq (s : State) :
    Scf.fold (n := k0_t1_loop.trips) (fun _ a => step w2 w3 pw kw a) s = (step w2 w3 pw kw)^[16] s := by
  rw [Scf.fold_eq, List.foldl_const, List.length_finRange]
  rfl

end loop

/-- The block one grid point stores, from the blocks it reads. -/
theorem block (kp : Vec Ideal S1x3x256 .f32) (p : Vec Ideal S1x3x8192 .f32) (bev : Vec Ideal S1x256x256 .f32)
    (w1 : Vec Ideal S3x8 .f32) (w2 : Vec Ideal S8x16 .f32) (w3 : Vec Ideal S16x32 .f32) (wa : Vec Ideal S256x128 .f32)
    (wb : Vec Ideal S32x128 .f32) (u : Fin 1) (r : Fin 256) (o : Fin 128) :
    k0_pay5 (Scf.fold (n := k0_t1_loop.trips) (fun _ a => step w2 w3 (k0_pay9 p w1) (k0_pay10 kp w1) a) (k0_pay8 kp p, k0_pay11)).2 bev wa wb
        (ix3 u r o)
      = max ((∑ x, bev (ix3 0 r x) * wa (ix2 x o))
          + ∑ x, walkP big rsq (fun q => dist2 (fun c => kp (ix3 0 c r)) (fun c => p (ix3 0 c q)))
              (fun w => net w2 w3 (layer1 (k0_pay9 p w1) (k0_pay10 kp w1) r w) x) 16 * wb (ix2 x o)) 0 := by
  rw [fused, loop_eq]
  simp only [steps_pool]
  rw [show row (k0_pay8 kp p) r = fun q => dist2 (fun c => kp (ix3 0 c r)) (fun c => p (ix3 0 c q)) from
    funext fun q => distances kp p r q]

end Cert.Block

end
-- ==== Proof.Layer.lean ====
/- The first layer: through the weights and then subtracted is subtracted and then through the weights, for a point within
   the radius, whose coordinates are real numbers, and for real weights. -/
module

public import proofs.«01_k».proof.Proof.Words

@[expose] public section

noncomputable section

namespace Cert.Layer

open Idealize Idealize.ShloMosaic Cert.Words

/-- A square is at least 0. -/
theorem sq_nonneg' (x : EReal) : 0 ≤ x * x := by
  induction x with
  | bot => simp [EReal.bot_mul_bot]
  | top => simp [EReal.top_mul_top]
  | coe a => rw [← EReal.coe_mul]; exact_mod_cast mul_self_nonneg a

/-- Two values whose difference has a square at most 4 are real numbers. -/
theorem real_of_sq {a p : EReal} (h : (a - p) * (a - p) ≤ ((4 : ℝ) : EReal)) : (∃ x : ℝ, a = x) ∧ ∃ y : ℝ, p = y := by
  induction a with
  | bot => simp [EReal.bot_mul_bot] at h
  | top => induction p with
    | bot => simp [EReal.top_mul_top] at h
    | top => simp [EReal.bot_mul_bot] at h
    | coe y => simp [EReal.top_mul_top] at h
  | coe x => induction p with
    | bot => simp [EReal.top_mul_top] at h
    | top => simp [EReal.bot_mul_bot] at h
    | coe y => exact ⟨⟨x, rfl⟩, ⟨y, rfl⟩⟩

/-- The coordinates of a key point and of a point within the radius are real numbers. -/
theorem real_of_near {a p : Fin 3 → EReal} (h : dist2 a p ≤ rsq) (c : Fin 3) : (∃ x : ℝ, a c = x) ∧ ∃ y : ℝ, p c = y := by
  rw [rsq_eq] at h
  unfold dist2 at h
  have h0 := sq_nonneg' (a 0 - p 0)
  have h1 := sq_nonneg' (a 1 - p 1)
  have h2 := sq_nonneg' (a 2 - p 2)
  apply real_of_sq
  refine le_trans ?_ h
  match c with
  | 0 => exact le_trans (le_add_of_nonneg_right h1) (le_add_of_nonneg_right h2)
  | 1 => exact le_trans (le_add_of_nonneg_left h0) (le_add_of_nonneg_right h2)
  | 2 => exact le_add_of_nonneg_left (add_nonneg h0 h1)

/-- The first layer of a point within the radius, both ways. -/
theorem first_layer {a p w : Fin 3 → EReal} (h : dist2 a p ≤ rsq) (hw : ∀ c, ∃ x : ℝ, w c = x) :
    (∑ c, p c * w c) - (∑ c, a c * w c) = ∑ c, (p c - a c) * w c := by
  choose x hx using fun c => (real_of_near h c).1
  choose y hy using fun c => (real_of_near h c).2
  choose z hz using hw
  simp only [Fin.sum_univ_three, hx, hy, hz]
  norm_cast
  ring

end Cert.Layer

end
-- ==== Proof.Pool.lean ====
/- The walk of one row of a block, pooled: the largest over the 16 nearest points of the row, with the first layer's
   weights applied to the offset. -/
module

public import proofs.«01_k».proof.Proof.Payload
public import proofs.«01_k».proof.Proof.Layer

@[expose] public section

set_option maxRecDepth 16384

noncomputable section

namespace Cert.Pool

open Idealize Idealize.ShloMosaic Cert.KernelIdeal Cert.KernelIdeal.Gen Cert.Select Cert.Words Cert.Payload

variable (kp : Vec Ideal S1x3x256 .f32) (p : Vec Ideal S1x3x8192 .f32) (w1 : Vec Ideal S3x8 .f32)
  (w2 : Vec Ideal S8x16 .f32) (w3 : Vec Ideal S16x32 .f32)

/-- The first layer at a point within the radius, the weights being real. -/
theorem layer_near (hw : ∀ a b, ∃ x : ℝ, w1 (ix2 a b) = x) (r : Fin 256) (q : Fin 8192)
    (h : dist2 (fun c => kp (ix3 0 c r)) (fun c => p (ix3 0 c q)) ≤ rsq) :
    layer1 (k0_pay9 p w1) (k0_pay10 kp w1) r (BitVec.ofNat 32 q.val)
      = fun k => ∑ c, (p (ix3 0 c q) - kp (ix3 0 c r)) * w1 (ix2 c k) := by
  funext k
  rw [layer1_at, pointLayer, keyLayer]
  exact Layer.first_layer (w := fun c => w1 (ix2 c k)) h (fun c => hw c k)

/-- The pooled row after the 16 steps. -/
theorem pool (hw : ∀ a b, ∃ x : ℝ, w1 (ix2 a b) = x) (r : Fin 256) (o : Fin 32) :
    walkP big rsq (fun q => dist2 (fun c => kp (ix3 0 c r)) (fun c => p (ix3 0 c q)))
        (fun w => net w2 w3 (layer1 (k0_pay9 p w1) (k0_pay10 kp w1) r w) o) 16
      = Finset.univ.fold max ⊥ fun j : Fin 16 =>
          if dist2 (fun c => kp (ix3 0 c r)) (fun c => p (ix3 0 c
              (order (fun q => dist2 (fun c => kp (ix3 0 c r)) (fun c => p (ix3 0 c q))) (j.castLE (by decide))))) ≤ rsq
          then net w2 w3 (fun k => ∑ c, (p (ix3 0 c
              (order (fun q => dist2 (fun c => kp (ix3 0 c r)) (fun c => p (ix3 0 c q))) (j.castLE (by decide))))
                - kp (ix3 0 c r)) * w1 (ix2 c k)) o
          else 0 :=
  walkP_eq_fold rsq_lt_big _ (by decide) _ (fun q => net w2 w3 (fun k => ∑ c, (p (ix3 0 c q) - kp (ix3 0 c r)) * w1 (ix2 c k)) o)
    (fun q h => congrArg (fun z => net w2 w3 z o) (layer_near kp p w1 hw r q h)) (fun q => net_nonneg _ _ _ _) 16 (by decide)
    (by decide)

end Cert.Pool

end
-- ==== Proof.Spec.lean ====
/- The value both programs compute, from the map features at the key points and the program's arguments: the 16 nearest
   points of each key point, their features through the three layers, the largest of each, and the fused row. -/
module

public import proofs.«01_k».proof.Proof.Select
public import proofs.«01_k».proof.Proof.Words

@[expose] public section

noncomputable section

namespace Cert.Spec

open Idealize Idealize.ShloMosaic Cert.Select Cert.Words

variable (kp : (⟨3, ![2, 2048, 3]⟩ : Shape).Idx → EReal) (pt : (⟨3, ![2, 8192, 3]⟩ : Shape).Idx → EReal)
  (w1 : (⟨2, ![3, 8]⟩ : Shape).Idx → EReal) (w2 : (⟨2, ![8, 16]⟩ : Shape).Idx → EReal)
  (w3 : (⟨2, ![16, 32]⟩ : Shape).Idx → EReal)

/-- The squared distances of key point `r` of batch `b` to the batch's points. -/
def distRow (b : Fin 2) (r : Fin 2048) : Fin 8192 → EReal :=
  fun q => dist2 (fun c => kp (ix3 b r c)) (fun c => pt (ix3 b q c))

/-- The `j`-th nearest point of key point `r`: smaller distances first, and of equal ones the earlier point. -/
def nearest (b : Fin 2) (r : Fin 2048) (j : Fin 16) : Fin 8192 := order (distRow kp pt b r) (j.castLE (by decide))

/-- The features of point `q` seen from key point `r`: the offset through the three layers. -/
def feature (b : Fin 2) (r : Fin 2048) (q : Fin 8192) (o : Fin 32) : EReal :=
  net w2 w3 (fun k => ∑ c, (pt (ix3 b q c) - kp (ix3 b r c)) * w1 (ix2 c k)) o

/-- The pooled features: the largest over the 16 nearest points, one beyond the radius counting as 0. -/
def pooled (b : Fin 2) (r : Fin 2048) (o : Fin 32) : EReal :=
  Finset.univ.fold max ⊥ fun j : Fin 16 =>
    if distRow kp pt b r (nearest kp pt b r j) ≤ rsq then feature kp pt w1 w2 w3 b r (nearest kp pt b r j) o else 0

/-- The result: the map features and the pooled features through the last weight's rows, clamped at 0. -/
def result (bev : (⟨3, ![2, 2048, 256]⟩ : Shape).Idx → EReal) (fw : (⟨2, ![288, 128]⟩ : Shape).Idx → EReal) :
    (⟨3, ![2, 2048, 128]⟩ : Shape).Idx → EReal :=
  fun y => max ((∑ x : Fin 256, bev (ix3 (y 0) (y 1) x) * fw (ix2 (x.castAdd 32 : Fin 288) (y 2)))
    + ∑ x : Fin 32, pooled kp pt w1 w2 w3 (y 0) (y 1) x * fw (ix2 (x.natAdd 256 : Fin 288) (y 2))) 0

end Cert.Spec

end
-- ==== Proof.Assemble.lean ====
/- One block's stored value is the specification's, for blocks that read the arrays where the specification does. -/
module

public import proofs.«01_k».proof.Proof.Block
public import proofs.«01_k».proof.Proof.Pool
public import proofs.«01_k».proof.Proof.Spec

@[expose] public section

set_option maxRecDepth 16384

noncomputable section

namespace Cert.Assemble

open Idealize Idealize.ShloMosaic Cert.KernelIdeal Cert.KernelIdeal.Gen Cert.Select Cert.Words Cert.Payload Cert.Block

/-- The stored value at row `r`, feature `o`, when row `r` of the block is key point `r'` of batch `b` and the first layer's
    weights are real. -/
theorem stored (kp : (⟨3, ![2, 2048, 3]⟩ : Shape).Idx → EReal) (pt : (⟨3, ![2, 8192, 3]⟩ : Shape).Idx → EReal)
    (bev : (⟨3, ![2, 2048, 256]⟩ : Shape).Idx → EReal) (w1 : (⟨2, ![3, 8]⟩ : Shape).Idx → EReal)
    (w2 : (⟨2, ![8, 16]⟩ : Shape).Idx → EReal) (w3 : (⟨2, ![16, 32]⟩ : Shape).Idx → EReal) (fw : (⟨2, ![288, 128]⟩ : Shape).Idx → EReal)
    (kpB : Vec Ideal S1x3x256 .f32) (ptB : Vec Ideal S1x3x8192 .f32) (bevB : Vec Ideal S1x256x256 .f32) (w1B : Vec Ideal S3x8 .f32)
    (w2B : Vec Ideal S8x16 .f32) (w3B : Vec Ideal S16x32 .f32) (wa : Vec Ideal S256x128 .f32) (wb : Vec Ideal S32x128 .f32)
    (b : Fin 2) (r : Fin 256) (r' : Fin 2048) (u : Fin 1) (o : Fin 128)
    (hk : ∀ k, kpB (ix3 0 k r) = kp (ix3 b r' k)) (hp : ∀ k q, ptB (ix3 0 k q) = pt (ix3 b q k))
    (hb : ∀ x, bevB (ix3 0 r x) = bev (ix3 b r' x)) (h1 : ∀ x y, w1B (ix2 x y) = w1 (ix2 x y))
    (h2 : ∀ x y, w2B (ix2 x y) = w2 (ix2 x y)) (h3 : ∀ x y, w3B (ix2 x y) = w3 (ix2 x y))
    (ha : ∀ x : Fin 256, wa (ix2 x o) = fw (ix2 (x.castAdd 32 : Fin 288) o))
    (hb' : ∀ x : Fin 32, wb (ix2 x o) = fw (ix2 (x.natAdd 256 : Fin 288) o))
    (hw : ∀ x y, ∃ a : ℝ, w1 (ix2 x y) = (a : EReal)) :
    k0_pay5 (Scf.fold (n := k0_t1_loop.trips) (fun _ a => step w2B w3B (k0_pay9 ptB w1B) (k0_pay10 kpB w1B) a) (k0_pay8 kpB ptB, k0_pay11)).2
        bevB wa wb (ix3 u r o)
      = Spec.result kp pt w1 w2 w3 bev fw (ix3 b r' o) := by
  have hw' : ∀ x y, ∃ a : ℝ, w1B (ix2 x y) = (a : EReal) := fun x y => by rw [h1]; exact hw x y
  rw [block]
  simp only [Pool.pool _ _ _ _ _ hw']
  simp only [net, hk, hp, hb, h1, h2, h3, ha, hb']
  rfl

end Cert.Assemble

end
-- ==== Proof.Bilinear.lean ====
/- The map features at the key points: what the launching program computes before the kernel runs, as one function of the
   two grid coordinates and the map. -/
module

public import proofs.«01_k».proof.Proof.Gen.KernelIdeal.Launch
public import proofs.«01_k».proof.Proof.Words

@[expose] public section

noncomputable section

namespace Cert.Bilinear

open Idealize Idealize.ShloMosaic Idealize.ShloMosaic.TcCoe Cert.KernelIdeal Cert.KernelIdeal.Gen

/-- A scalar spread over all key points. -/
def spread0 {α : Type} (v : S_.Idx → α) : S2x2048.Idx → α := broadcastInDim S2x2048 ![] bcast_S_S2x2048 v

/-- A cell number brought into the map's 180 cells. -/
def clipOf (v : IVec S2x2048 32) : IVec S2x2048 32 :=
  minsi (spread0 (constantI S_ 32 179#32)) (maxsi (spread0 (constantI S_ 32 0#32)) v)

/-- The cell at or below a coordinate. -/
def cell0 (x : FVec Ideal S2x2048 .f32) : IVec S2x2048 32 := clipOf (fptosi 32 (Host.floor x))

/-- The cell above it. -/
def cell1 (x : FVec Ideal S2x2048 .f32) : IVec S2x2048 32 :=
  clipOf (addi (fptosi 32 (Host.floor x)) (spread0 (constantI S_ 32 1#32)))

/-- An index counted from the end when it is negative. -/
def wrapOf (v : IVec S2x2048 32) : IVec S2x2048 32 :=
  select (cmpi .slt v (spread0 (constantI S_ 32 0#32))) (addi v (spread0 (constantI S_ 32 180#32))) v

/-- One value per key point, as a column. -/
def column {α : Type} (v : S2x2048.Idx → α) : S2x2048x1.Idx → α :=
  broadcastInDim S2x2048x1 ![0, 1] bcast_S2x2048_S2x2048x1_0_1 v

/-- Two columns side by side. -/
def pairOf (a b : IVec S2x2048x1 32) : IVec S2x2048x2 32 :=
  concatenate S2x2048x2 2 [⟨S2x2048x1, a⟩, ⟨S2x2048x1, b⟩] concatenates_S2x2048x1_S2x2048x1_S2x2048x2_d2

/-- The map's 256 features at the cells `(y, x)`. -/
def cellAt (ims : FVec Ideal S2x180x180x256 .f32) (y x : IVec S2x2048 32) : FVec Ideal S2x2048x256 .f32 :=
  Host.gather gather_S2x180x180x256_S2x2048x2_S2x2048x256_2_12_0_0_12_2_111256 ims
    (pairOf (column (wrapOf y)) (column (wrapOf x)))

/-- One weight per key point, spread over the features. -/
def weigh (w : FVec Ideal S2x2048 .f32) : FVec Ideal S2x2048x256 .f32 :=
  broadcastInDim S2x2048x256 ![0, 1, 2] bcast_S2x2048x1_S2x2048x256_0_1_2 (column w)

/-- The bilinear interpolation from the four cells `x0`, `x1`, `y0`, `y1`. -/
def mixOf (x y : FVec Ideal S2x2048 .f32) (x0 x1 y0 y1 : IVec S2x2048 32) (feat : FVec Ideal S2x256x180x180 .f32) :
    FVec Ideal S2x2048x256 .f32 :=
  let ims := transpose S2x180x180x256 [0, 2, 3, 1] feat transposes_S2x256x180x180_S2x180x180x256_0_2_3_1
  let fx0 : FVec Ideal S2x2048 .f32 := sitofp .f32 x0
  let fx1 : FVec Ideal S2x2048 .f32 := sitofp .f32 x1
  let fy0 : FVec Ideal S2x2048 .f32 := sitofp .f32 y0
  let fy1 : FVec Ideal S2x2048 .f32 := sitofp .f32 y1
  addf (addf (addf (mulf (cellAt ims y0 x0) (weigh (mulf (subf fx1 x) (subf fy1 y))))
      (mulf (cellAt ims y1 x0) (weigh (mulf (subf fx1 x) (subf y fy0)))))
      (mulf (cellAt ims y0 x1) (weigh (mulf (subf x fx0) (subf fy1 y)))))
    (mulf (cellAt ims y1 x1) (weigh (mulf (subf x fx0) (subf y fy0))))

/-- The bilinear interpolation of the map `feat` at the coordinates `x`, `y`. -/
def bevOf (x y : FVec Ideal S2x2048 .f32) (feat : FVec Ideal S2x256x180x180 .f32) : FVec Ideal S2x2048x256 .f32 :=
  mixOf x y (cell0 x) (cell1 x) (cell0 y) (cell1 y) feat

/-- The first grid coordinate, as the kernel's program computes it. -/
def coordX (kp : FVec Ideal S2x2048x3 .f32) : FVec Ideal S2x2048 .f32 :=
  Host.divf (subf (shapeCast S2x2048 (extractStridedSlice S2x2048x1 ![0, 0, 0] kp slices_S2x2048x3_S2x2048x1_0_0_0) shapeCasts_S2x2048x1_S2x2048)
    (spread0 (constant S_ .f32 0x00000000#32))) (spread0 (constant S_ .f32 0x3F4CCCCD#32))

/-- The second grid coordinate, as the kernel's program computes it. -/
def coordY (kp : FVec Ideal S2x2048x3 .f32) : FVec Ideal S2x2048 .f32 :=
  Host.divf (subf (shapeCast S2x2048 (extractStridedSlice S2x2048x1 ![0, 0, 1] kp slices_S2x2048x3_S2x2048x1_0_0_1) shapeCasts_S2x2048x1_S2x2048)
    (spread0 (constant S_ .f32 0xC2200000#32))) (spread0 (constant S_ .f32 0x3F4CCCCD#32))

end Cert.Bilinear

end
-- ==== Proof.HostPrefix.lean ====
/- The arrays the kernel is launched on, from the program's arguments: the operations before the launch, in two stretches
   (up to the four cell numbers, and from there on). -/
module

public import proofs.«01_k».proof.Proof.Bilinear
public import proofs.«01_k».proof.Proof.Gen.KernelIdeal.Frame.Runs
public import Idealize.ShloMosaic.Lib.StableHlo.Run

@[expose] public section

set_option maxRecDepth 8192
set_option maxHeartbeats 4000000

noncomputable section

namespace Cert.HostPrefix

open Idealize Idealize.ShloMosaic Idealize.ShloMosaic.TcCoe Cert.KernelIdeal Cert.KernelIdeal.Gen Cert.Bilinear

section windows

variable (W : Valuation τ sig (Elt Ideal))

/-- The operations up to the four cell numbers. -/
abbrev early : List (HloOp τ sig (Elt Ideal)) :=
  List.flatten [hostOps0, hostOps0_1, hostOps0_2, hostOps0_3, hostOps0_4, hostOps0_5, hostOps0_6, hostOps0_7]

/-- The first coordinate. -/
theorem early_x : StableHlo.after early W (no_index (Proc.devRef .tc main_v5)) = coordX (W (Proc.devRef .tc main_arg0)) := by
  simp only [early, List.flatten_cons, List.flatten_nil, List.append_nil, List.cons_append, List.nil_append, hostOps0, hostOps0_1, hostOps0_2,
    hostOps0_3, hostOps0_4, hostOps0_5, hostOps0_6, hostOps0_7, StableHlo.TRef.binary, StableHlo.TRef.unary, StableHlo.TRef.toBuf,
    StableHlo.TRef.ofBuf, cast_eq]
  after_results_simp
  first | done | rfl

/-- The second coordinate. -/
theorem early_y : StableHlo.after early W (no_index (Proc.devRef .tc main_v11)) = coordY (W (Proc.devRef .tc main_arg0)) := by
  simp only [early, List.flatten_cons, List.flatten_nil, List.append_nil, List.cons_append, List.nil_append, hostOps0, hostOps0_1, hostOps0_2,
    hostOps0_3, hostOps0_4, hostOps0_5, hostOps0_6, hostOps0_7, StableHlo.TRef.binary, StableHlo.TRef.unary, StableHlo.TRef.toBuf,
    StableHlo.TRef.ofBuf, cast_eq]
  after_results_simp
  first | done | rfl

/-- The cell at or below the first coordinate. -/
theorem early_x0 : StableHlo.after early W (no_index (Proc.devRef .tc main_v14)) = cell0 (coordX (W (Proc.devRef .tc main_arg0))) := by
  simp only [early, List.flatten_cons, List.flatten_nil, List.append_nil, List.cons_append, List.nil_append, hostOps0, hostOps0_1, hostOps0_2,
    hostOps0_3, hostOps0_4, hostOps0_5, hostOps0_6, hostOps0_7, StableHlo.TRef.binary, StableHlo.TRef.unary, StableHlo.TRef.toBuf,
    StableHlo.TRef.ofBuf, cast_eq]
  after_results_simp
  first | done | rfl

/-- The cell above the first coordinate. -/
theorem early_x1 : StableHlo.after early W (no_index (Proc.devRef .tc main_v19)) = cell1 (coordX (W (Proc.devRef .tc main_arg0))) := by
  simp only [early, List.flatten_cons, List.flatten_nil, List.append_nil, List.cons_append, List.nil_append, hostOps0, hostOps0_1, hostOps0_2,
    hostOps0_3, hostOps0_4, hostOps0_5, hostOps0_6, hostOps0_7, StableHlo.TRef.binary, StableHlo.TRef.unary, StableHlo.TRef.toBuf,
    StableHlo.TRef.ofBuf, cast_eq]
  after_results_simp
  first | done | rfl

/-- The cell at or below the second coordinate. -/
theorem early_y0 : StableHlo.after early W (no_index (Proc.devRef .tc main_v22)) = cell0 (coordY (W (Proc.devRef .tc main_arg0))) := by
  simp only [early, List.flatten_cons, List.flatten_nil, List.append_nil, List.cons_append, List.nil_append, hostOps0, hostOps0_1, hostOps0_2,
    hostOps0_3, hostOps0_4, hostOps0_5, hostOps0_6, hostOps0_7, StableHlo.TRef.binary, StableHlo.TRef.unary, StableHlo.TRef.toBuf,
    StableHlo.TRef.ofBuf, cast_eq]
  after_results_simp
  first | done | rfl

/-- The cell above the second coordinate. -/
theorem early_y1 : StableHlo.after early W (no_index (Proc.devRef .tc main_v27)) = cell1 (coordY (W (Proc.devRef .tc main_arg0))) := by
  simp only [early, List.flatten_cons, List.flatten_nil, List.append_nil, List.cons_append, List.nil_append, hostOps0, hostOps0_1, hostOps0_2,
    hostOps0_3, hostOps0_4, hostOps0_5, hostOps0_6, hostOps0_7, StableHlo.TRef.binary, StableHlo.TRef.unary, StableHlo.TRef.toBuf,
    StableHlo.TRef.ofBuf, cast_eq]
  after_results_simp
  first | done | rfl

/-- Argument 0 is kept. -/
theorem early_arg0 : StableHlo.after early W (no_index (Proc.devRef .tc main_arg0)) = W (Proc.devRef .tc main_arg0) := by
  simp only [early, List.flatten_cons, List.flatten_nil, List.append_nil, List.cons_append, List.nil_append, hostOps0, hostOps0_1, hostOps0_2,
    hostOps0_3, hostOps0_4, hostOps0_5, hostOps0_6, hostOps0_7, StableHlo.TRef.binary, StableHlo.TRef.unary, StableHlo.TRef.toBuf,
    StableHlo.TRef.ofBuf, cast_eq]
  after_results_simp
  first | done | rfl

/-- Argument 1 is kept. -/
theorem early_arg1 : StableHlo.after early W (no_index (Proc.devRef .tc main_arg1)) = W (Proc.devRef .tc main_arg1) := by
  simp only [early, List.flatten_cons, List.flatten_nil, List.append_nil, List.cons_append, List.nil_append, hostOps0, hostOps0_1, hostOps0_2,
    hostOps0_3, hostOps0_4, hostOps0_5, hostOps0_6, hostOps0_7, StableHlo.TRef.binary, StableHlo.TRef.unary, StableHlo.TRef.toBuf,
    StableHlo.TRef.ofBuf, cast_eq]
  after_results_simp
  first | done | rfl

/-- Argument 2 is kept. -/
theorem early_arg2 : StableHlo.after early W (no_index (Proc.devRef .tc main_arg2)) = W (Proc.devRef .tc main_arg2) := by
  simp only [early, List.flatten_cons, List.flatten_nil, List.append_nil, List.cons_append, List.nil_append, hostOps0, hostOps0_1, hostOps0_2,
    hostOps0_3, hostOps0_4, hostOps0_5, hostOps0_6, hostOps0_7, StableHlo.TRef.binary, StableHlo.TRef.unary, StableHlo.TRef.toBuf,
    StableHlo.TRef.ofBuf, cast_eq]
  after_results_simp
  first | done | rfl

/-- Argument 6 is kept. -/
theorem early_arg6 : StableHlo.after early W (no_index (Proc.devRef .tc main_arg6)) = W (Proc.devRef .tc main_arg6) := by
  simp only [early, List.flatten_cons, List.flatten_nil, List.append_nil, List.cons_append, List.nil_append, hostOps0, hostOps0_1, hostOps0_2,
    hostOps0_3, hostOps0_4, hostOps0_5, hostOps0_6, hostOps0_7, StableHlo.TRef.binary, StableHlo.TRef.unary, StableHlo.TRef.toBuf,
    StableHlo.TRef.ofBuf, cast_eq]
  after_results_simp
  first | done | rfl

/-- The pair of columns as the program writes it is `pairOf`. -/
theorem pair_eq : (fun a b => concatenate S2x2048x2 2 [⟨S2x2048x1, a⟩, ⟨S2x2048x1, b⟩] concatenates_S2x2048x1_S2x2048x1_S2x2048x2_d2)
    = pairOf := rfl

/-- The features at the key points, from the coordinates and the cells. -/
theorem late_bev : StableHlo.after (hostOps0_8 (F := Ideal)) W (Proc.devRef .tc main_v115) = mixOf (W (Proc.devRef .tc main_v5)) (W (Proc.devRef .tc main_v11)) (W (Proc.devRef .tc main_v14)) (W (Proc.devRef .tc main_v19))
      (W (Proc.devRef .tc main_v22)) (W (Proc.devRef .tc main_v27)) (W (Proc.devRef .tc main_arg2)) := by
  simp only [hostOps0_8, pair_eq]
  after_results_simp
  first | done | rfl

/-- The key points, coordinates first. -/
theorem late_kp : StableHlo.after (hostOps0_8 (F := Ideal)) W (Proc.devRef .tc main_v116) = transpose S2x3x2048 [0, 2, 1] (W (Proc.devRef .tc main_arg0)) transposes_S2x2048x3_S2x3x2048_0_2_1 := by
  simp only [hostOps0_8, pair_eq]
  after_results_simp
  first | done | rfl

/-- The points, coordinates first. -/
theorem late_pt : StableHlo.after (hostOps0_8 (F := Ideal)) W (Proc.devRef .tc main_v117) = transpose S2x3x8192 [0, 2, 1] (W (Proc.devRef .tc main_arg1)) transposes_S2x8192x3_S2x3x8192_0_2_1 := by
  simp only [hostOps0_8, pair_eq]
  after_results_simp
  first | done | rfl

/-- The upper rows of the last weight. -/
theorem late_wa : StableHlo.after (hostOps0_8 (F := Ideal)) W (Proc.devRef .tc main_v118) = extractStridedSlice S256x128 ![0, 0] (W (Proc.devRef .tc main_arg6)) slices_S288x128_S256x128_0_0 := by
  simp only [hostOps0_8, pair_eq]
  after_results_simp
  first | done | rfl

/-- The lower rows of the last weight. -/
theorem late_wb : StableHlo.after (hostOps0_8 (F := Ideal)) W (Proc.devRef .tc main_v119) = extractStridedSlice S32x128 ![256, 0] (W (Proc.devRef .tc main_arg6)) slices_S288x128_S32x128_256_0 := by
  simp only [hostOps0_8, pair_eq]
  after_results_simp
  first | done | rfl

/-- Arrays the launch finds: the early operations, then the last stretch. -/
theorem split (b : DevRef τ sig) : StableHlo.after (List.flatten [hostOps0 (F := Ideal), hostOps0_1, hostOps0_2, hostOps0_3, hostOps0_4, hostOps0_5, hostOps0_6, hostOps0_7, hostOps0_8]) W b
    = StableHlo.after (hostOps0_8 (F := Ideal)) (StableHlo.after early W) b := by
  rw [show List.flatten [hostOps0 (F := Ideal), hostOps0_1, hostOps0_2, hostOps0_3, hostOps0_4, hostOps0_5, hostOps0_6, hostOps0_7, hostOps0_8]
    = early ++ hostOps0_8 from by simp only [early, List.flatten_cons, List.flatten_nil, List.append_nil, List.append_assoc], StableHlo.after_append]

end windows

variable (m : (x : Loc nD τ sig) → Buf (Elt Ideal) x) (c : Dev nD)

/-- The features at the key points, from the arguments. -/
theorem V_bev : V m c main_v115 = bevOf (coordX (m ((c : Thread nD τ).loc main_arg0))) (coordY (m ((c : Thread nD τ).loc main_arg0))) (m ((c : Thread nD τ).loc main_arg2)) := by
  show StableHlo.after _ _ _ = _
  rw [split, late_bev, early_x, early_y, early_x0, early_x1, early_y0, early_y1, early_arg2]
  rfl

/-- The key points, coordinates first. -/
theorem V_kp : V m c main_v116 = transpose S2x3x2048 [0, 2, 1] (m ((c : Thread nD τ).loc main_arg0)) transposes_S2x2048x3_S2x3x2048_0_2_1 := by
  show StableHlo.after _ _ _ = _
  rw [split, late_kp, early_arg0]

/-- The points, coordinates first. -/
theorem V_pt : V m c main_v117 = transpose S2x3x8192 [0, 2, 1] (m ((c : Thread nD τ).loc main_arg1)) transposes_S2x8192x3_S2x3x8192_0_2_1 := by
  show StableHlo.after _ _ _ = _
  rw [split, late_pt, early_arg1]

/-- The upper rows of the last weight. -/
theorem V_wa : V m c main_v118 = extractStridedSlice S256x128 ![0, 0] (m ((c : Thread nD τ).loc main_arg6)) slices_S288x128_S256x128_0_0 := by
  show StableHlo.after _ _ _ = _
  rw [split, late_wa, early_arg6]

/-- The lower rows of the last weight. -/
theorem V_wb : V m c main_v119 = extractStridedSlice S32x128 ![256, 0] (m ((c : Thread nD τ).loc main_arg6)) slices_S288x128_S32x128_256_0 := by
  show StableHlo.after _ _ _ = _
  rw [split, late_wb, early_arg6]

end Cert.HostPrefix

end
-- ==== Proof.KernelArray.lean ====
/- The kernel's result array after the run, from the program's arguments: each grid point's block lies where its index map
   puts it, and what the point stores there is the specification's value. -/
module

public import proofs.«01_k».proof.Proof.Gen.KernelIdeal.Value
public import proofs.«01_k».proof.Proof.Assemble
public import proofs.«01_k».proof.Proof.HostPrefix
public import Idealize.ShloMosaic.Lib.Pointwise
public import Idealize.ShloMosaic.Lib.Pipeline.ValueKit

@[expose] public section

set_option maxRecDepth 16384

noncomputable section

namespace Cert.KernelArray

open Idealize Idealize.ShloMosaic Idealize.ShloMosaic.TcCoe Cert.KernelIdeal Cert.KernelIdeal.Gen
open Idealize.ShloMosaic.Pipeline (Dat)
open Idealize.SL Idealize.SL.RA
open Cert.Select Cert.Words Cert.Payload Cert.Block Cert.Bilinear

variable (m : (x : Loc nD τ sig) → Buf (Elt Ideal) x) (c : Dev nD)

/-- Every window's block index at every point. -/
theorem idx : ∀ t : Fin cfg0.N, win0_0.index t = ![t.val / 8, 0, t.val % 8] ∧ win0_1.index t = ![t.val / 8, 0, 0]
    ∧ win0_2.index t = ![t.val / 8, t.val % 8, 0] ∧ win0_3.index t = ![0, 0] ∧ win0_4.index t = ![0, 0]
    ∧ win0_5.index t = ![0, 0] ∧ win0_6.index t = ![0, 0] ∧ win0_7.index t = ![0, 0]
    ∧ win0_8.index t = ![t.val / 8, t.val % 8, 0] :=
  (by decide +kernel : ∀ t : Fin grid0.N, _)

/-- The batch a point works on. -/
def batch (t : Fin cfg0.N) : Fin 2 := ⟨t.val / 8, by have : t.val < 16 := t.isLt; omega⟩

/-- The key point at row `r` of the point's block. -/
def keyPoint (t : Fin cfg0.N) (r : Fin 256) : Fin 2048 := ⟨t.val % 8 * 256 + r.val, by have := r.isLt; omega⟩

/-- The block of key points. -/
theorem blk_kp (t : Fin cfg0.N) (k : Fin 3) (r : Fin 256) :
    iblk m c 0 t (ix3 0 k r) = V m c main_v116 (ix3 (batch t) k (keyPoint t r)) := by
  blk_ext [iblk, idx t, batch, keyPoint]

/-- The block of points. -/
theorem blk_pt (t : Fin cfg0.N) (k : Fin 3) (q : Fin 8192) :
    iblk m c 1 t (ix3 0 k q) = V m c main_v117 (ix3 (batch t) k q) := by
  blk_ext [iblk, idx t, batch, keyPoint]

/-- The block of map features. -/
theorem blk_bev (t : Fin cfg0.N) (r : Fin 256) (x : Fin 256) :
    iblk m c 2 t (ix3 0 r x) = V m c main_v115 (ix3 (batch t) (keyPoint t r) x) := by
  blk_ext [iblk, idx t, batch, keyPoint]

/-- The first layer's weights, whole. -/
theorem blk_w1 (t : Fin cfg0.N) (a : Fin 3) (b : Fin 8) : iblk m c 3 t (ix2 a b) = V m c main_arg3 (ix2 a b) := by
  blk_ext [iblk, idx t]

/-- The second layer's weights, whole. -/
theorem blk_w2 (t : Fin cfg0.N) (a : Fin 8) (b : Fin 16) : iblk m c 4 t (ix2 a b) = V m c main_arg4 (ix2 a b) := by
  blk_ext [iblk, idx t]

/-- The third layer's weights, whole. -/
theorem blk_w3 (t : Fin cfg0.N) (a : Fin 16) (b : Fin 32) : iblk m c 5 t (ix2 a b) = V m c main_arg5 (ix2 a b) := by
  blk_ext [iblk, idx t]

/-- The upper rows of the last weight, whole. -/
theorem blk_wa (t : Fin cfg0.N) (a : Fin 256) (b : Fin 128) : iblk m c 6 t (ix2 a b) = V m c main_v118 (ix2 a b) := by
  blk_ext [iblk, idx t]

/-- The lower rows of the last weight, whole. -/
theorem blk_wb (t : Fin cfg0.N) (a : Fin 32) (b : Fin 128) : iblk m c 7 t (ix2 a b) = V m c main_v119 (ix2 a b) := by
  blk_ext [iblk, idx t]

/-- Where the point's output block lies. -/
theorem place (t : Fin cfg0.N) (u : Fin 1) (r : Fin 256) (o : Fin 128) :
    (win0_8.blk t).view.emb (ix3 u r o) = ix3 (batch t) (keyPoint t r) o := by
  blk_ext [idx t, batch, keyPoint]

/-- A key point's coordinate. -/
theorem val_kp (b : Fin 2) (k : Fin 3) (r : Fin 2048) :
    V m c main_v116 (ix3 b k r) = m ((c : Thread nD τ).loc main_arg0) (ix3 b r k) := by
  rw [HostPrefix.V_kp]; pointwise

/-- A point's coordinate. -/
theorem val_pt (b : Fin 2) (k : Fin 3) (q : Fin 8192) :
    V m c main_v117 (ix3 b k q) = m ((c : Thread nD τ).loc main_arg1) (ix3 b q k) := by
  rw [HostPrefix.V_pt]; pointwise

/-- An upper row of the last weight. -/
theorem val_wa (x : Fin 256) (o : Fin 128) :
    V m c main_v118 (ix2 x o) = m ((c : Thread nD τ).loc main_arg6) (ix2 (x.castAdd 32 : Fin 288) o) := by
  rw [HostPrefix.V_wa]; pointwise; blk_ext; rfl

/-- A lower row of the last weight. -/
theorem val_wb (x : Fin 32) (o : Fin 128) :
    V m c main_v119 (ix2 x o) = m ((c : Thread nD τ).loc main_arg6) (ix2 (x.natAdd 256 : Fin 288) o) := by
  rw [HostPrefix.V_wb]; pointwise; blk_ext; rfl

/-- What the point stores is the specification's value, the first layer's weights being real. -/
theorem point (hw : ∀ a b, ∃ x : ℝ, m ((c : Thread nD τ).loc main_arg3) (ix2 a b) = (x : EReal)) (t : Fin cfg0.N) (u : Fin 1) (r : Fin 256) (o : Fin 128) :
    outsAt0 m c t (ix3 u r o)
      = Spec.result (m ((c : Thread nD τ).loc main_arg0)) (m ((c : Thread nD τ).loc main_arg1))
          (m ((c : Thread nD τ).loc main_arg3)) (m ((c : Thread nD τ).loc main_arg4)) (m ((c : Thread nD τ).loc main_arg5))
          (bevOf (coordX (m ((c : Thread nD τ).loc main_arg0))) (coordY (m ((c : Thread nD τ).loc main_arg0))) (m ((c : Thread nD τ).loc main_arg2)))
          (m ((c : Thread nD τ).loc main_arg6)) (ix3 (batch t) (keyPoint t r) o) := by
  unfold outsAt0
  frame_out
  exact Assemble.stored _ _ _ _ _ _ _ (iblk m c 0 t) (iblk m c 1 t) (iblk m c 2 t) (iblk m c 3 t) (iblk m c 4 t) (iblk m c 5 t)
    (iblk m c 6 t) (iblk m c 7 t) (batch t) r (keyPoint t r) u o
    (fun k => (blk_kp m c t k r).trans (val_kp m c _ _ _)) (fun k q => (blk_pt m c t k q).trans (val_pt m c _ _ _))
    (fun x => (blk_bev m c t r x).trans (congrFun (HostPrefix.V_bev m c) _))
    (fun x y => (blk_w1 m c t x y).trans (congrFun (V_main_arg3 m c) _))
    (fun x y => (blk_w2 m c t x y).trans (congrFun (V_main_arg4 m c) _))
    (fun x y => (blk_w3 m c t x y).trans (congrFun (V_main_arg5 m c) _))
    (fun x => (blk_wa m c t x o).trans (val_wa m c x o)) (fun x => (blk_wb m c t x o).trans (val_wb m c x o)) hw

/-- The result array after the run. -/
theorem final (hw : ∀ a b, ∃ x : ℝ, m ((c : Thread nD τ).loc main_arg3) (ix2 a b) = (x : EReal)) :
    (dats m 0 c).arrAt 8 cfg0.N
      = Spec.result (m ((c : Thread nD τ).loc main_arg0)) (m ((c : Thread nD τ).loc main_arg1))
          (m ((c : Thread nD τ).loc main_arg3)) (m ((c : Thread nD τ).loc main_arg4)) (m ((c : Thread nD τ).loc main_arg5))
          (bevOf (coordX (m ((c : Thread nD τ).loc main_arg0))) (coordY (m ((c : Thread nD τ).loc main_arg0))) (m ((c : Thread nD τ).loc main_arg2)))
          (m ((c : Thread nD τ).loc main_arg6)) := by
  refine (dats m 0 c).arrAt_eq_of_covers 8 _ (by decide +kernel) fun t hf y => ?_
  blk_simp
  rw [after0_8]
  have hy : y = (ix3 (y 0) (y 1) (y 2) : S1x256x128.Idx) := eq_ix3 y
  rw [hy]
  exact (point m c hw t _ _ _).trans (congrArg _ (place t _ _ _).symm)

end Cert.KernelArray

end
-- ==== Proof.Nearest.lean ====
/- The reference's selection read at an index: its top-k of the negated distances gives the 16 nearest points in order, and
   its gather reads the points at the positions given. -/
module

public import proofs.«01_k».proof.Proof.Gen.ReferenceIdeal.Read
public import proofs.«01_k».proof.Proof.Select
public import Idealize.ShloMosaic.Lib.Pointwise

@[expose] public section

set_option maxRecDepth 16384

noncomputable section

namespace Cert.Nearest

open Idealize Idealize.ShloMosaic Cert.ReferenceIdeal Cert.ReferenceIdeal.Gen Cert.Select

/-- "The negated is greater" is "is smaller". -/
theorem gt_neg (x y : EReal) : (FloatOps.cmpfTotal (F := Ideal) (φ := .f32) .gt (-x) (-y) == 1#1) = decide (x < y) := by
  show (BitVec.ofBool (decide (-y < -x)) == 1#1) = decide (x < y)
  rw [show decide (-y < -x) = decide (x < y) from by simp only [EReal.neg_lt_neg_iff]]
  cases decide (x < y) <;> rfl

/-- Position `k` of a row. -/
theorem along_eq (b : Fin 2) (r : Fin 2048) (j k : Fin 8192) :
    (ix3 b r j : S2x2048x8192.Idx).along (2 : Fin 3) k = ix3 b r k := by
  funext a
  match a with
  | ⟨0, _⟩ => rfl
  | ⟨1, _⟩ => rfl
  | ⟨2, _⟩ => rfl

/-- The first 16 places of a row. -/
theorem slice_at {α : Type} (v : S2x2048x8192.Idx → α) (h : S2x2048x8192.Slices (fun _ => 0) S2x2048x16) (b : Fin 2) (r : Fin 2048)
    (j : Fin 16) :
    extractStridedSlice S2x2048x16 (fun _ => 0) v h (ix3 b r j) = v (ix3 b r (j.castLE (by decide) : Fin 8192)) := by
  unfold extractStridedSlice
  congr 1
  funext a
  apply Fin.ext
  match a with
  | ⟨0, _⟩ => exact Nat.zero_add _
  | ⟨1, _⟩ => exact Nat.zero_add _
  | ⟨2, _⟩ => exact Nat.zero_add _

/-- The top-k's permutation of a row of negated distances is the order of the distances. -/
theorem perm_eq (X : FVec Ideal S2x2048x8192 .f32) (b : Fin 2) (r : Fin 2048) (d : Fin 8192 → EReal)
    (hd : ∀ q, X (ix3 b r q) = -(d q)) (j : Fin 8192) :
    sortedFrom (n := 8192) (fun k k' => FloatOps.cmpfTotal (F := Ideal) (φ := .f32) .gt
        (X ((ix3 b r j : S2x2048x8192.Idx).along (2 : Fin 3) k))
        (X ((ix3 b r j : S2x2048x8192.Idx).along (2 : Fin 3) k')) == 1#1) j = order d j := by
  unfold order
  congr 1
  funext k k'
  rw [along_eq, along_eq, hd, hd, gt_neg]

/-- The values: the negated distances of the nearest. -/
theorem values_at (X : FVec Ideal S2x2048x8192 .f32) (h : S2x2048x8192.Slices (fun _ => 0) S2x2048x16) (b : Fin 2) (r : Fin 2048)
    (d : Fin 8192 → EReal) (hd : ∀ q, X (ix3 b r q) = -(d q)) (j : Fin 16) :
    (Host.topK S2x2048x16 2 (FloatOps.cmpfTotal (F := Ideal) (φ := .f32) .gt) X h).1 (ix3 b r j)
      = -(d (order d (j.castLE (by decide)))) := by
  unfold Host.topK
  dsimp only
  rw [slice_at]
  unfold Host.sort2
  rw [dif_pos (show 2 < S2x2048x8192.rank by decide)]
  dsimp only
  refine (congrArg X (along_eq b r _ _)).trans ?_
  refine (hd _).trans ?_
  exact congrArg (fun k => -(d k)) (perm_eq X b r d hd _)

/-- The indices: the positions of the nearest. -/
theorem indices_at (X : FVec Ideal S2x2048x8192 .f32) (h : S2x2048x8192.Slices (fun _ => 0) S2x2048x16) (b : Fin 2) (r : Fin 2048)
    (d : Fin 8192 → EReal) (hd : ∀ q, X (ix3 b r q) = -(d q)) (j : Fin 16) :
    (Host.topK S2x2048x16 2 (FloatOps.cmpfTotal (F := Ideal) (φ := .f32) .gt) X h).2 (ix3 b r j)
      = BitVec.ofNat 32 (order d (j.castLE (by decide))).val := by
  unfold Host.topK
  dsimp only
  rw [slice_at]
  unfold Host.sort2
  rw [dif_pos (show 2 < S2x2048x8192.rank by decide)]
  dsimp only
  rw [dif_pos (show 2 < 3 by decide)]
  refine (congrArg (iotaInDim S2x2048x8192 32 (2 : Fin 3)) (along_eq b r _ _)).trans ?_
  exact congrArg (fun k : Fin 8192 => BitVec.ofNat 32 k.val) (perm_eq X b r d hd _)

/-- The printed dimension numbers of the reference's read of the points. -/
abbrev dims := gather_S2x8192x3_S2x2048x16x1_S2x2048x16x3_3_1_0_0_1_3_113

/-- The gather at an index whose start word is a position: that position's row. -/
theorem gather_at (x : FVec Ideal S2x8192x3 .f32) (idx : IVec S2x2048x16x1 32) (b : Fin 2) (r : Fin 2048) (j : Fin 16) (k : Fin 3)
    (q : Fin 8192) (hq : idx (ix4 b r j 0) = BitVec.ofNat 32 q.val) :
    Host.gather dims x idx (ix4 b r j k) = x (ix3 b q k) := by
  unfold Host.gather
  congr 1
  funext a
  refine Fin.ext ?_
  show dims.start (ix4 b r j k) idx a + dims.batchCoord (ix4 b r j k) a + dims.offCoord (ix4 b r j k) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (show (0 : Fin 3) ∈ dims.operandBatchingDims from by decide),
      GatherDims.offCoord_eq_zero _ _ _ (show (0 : Fin 3) ∉ dims.sKept from by decide)]
    simp only [Nat.zero_add, Nat.add_zero]
    unfold GatherDims.batchCoord
    rw [dif_pos (show (0 : Fin 3) ∈ dims.operandBatchingDims from by decide)]
    rfl
  · rw [GatherDims.batchCoord_eq_zero _ _ _ (show (1 : Fin 3) ∉ dims.operandBatchingDims from by decide),
      GatherDims.offCoord_eq_zero _ _ _ (show (1 : Fin 3) ∉ dims.sKept from by decide)]
    simp only [Nat.add_zero]
    unfold GatherDims.start
    rw [dif_pos (show (1 : Fin 3) ∈ dims.startIndexMap from by decide)]
    have hsi : dims.siIdx (ix4 b r j k) ⟨List.idxOf (1 : Fin 3) dims.startIndexMap,
        List.idxOf_lt_length_iff.2 (show (1 : Fin 3) ∈ dims.startIndexMap from by decide)⟩ = ix4 b r j 0 := by
      funext e; refine Fin.ext ?_
      match e with
      | ⟨0, _⟩ => rfl
      | ⟨1, _⟩ => rfl
      | ⟨2, _⟩ => rfl
      | ⟨3, _⟩ => rfl
    have hl := q.isLt
    rw [hsi, hq, toInt_ofNat q.val (by omega)]
    show min q.val 8191 = q.val
    omega
  · rw [GatherDims.batchCoord_eq_zero _ _ _ (show (2 : Fin 3) ∉ dims.operandBatchingDims from by decide)]
    unfold GatherDims.start GatherDims.offCoord
    rw [dif_neg (show (2 : Fin 3) ∉ dims.startIndexMap from by decide), dif_pos (show (2 : Fin 3) ∈ dims.sKept from by decide)]
    simp only [Nat.zero_add]
    rfl

end Cert.Nearest

end
-- ==== Proof.RefValue.lean ====
/- The reference's result read at an index is the specification's value. -/
module

public import proofs.«01_k».proof.Proof.Nearest
public import proofs.«01_k».proof.Proof.Spec
public import Idealize.ShloMosaic.Lib.Pointwise

@[expose] public section

set_option maxRecDepth 16384

noncomputable section

namespace Cert.RefValue

open Idealize Idealize.ShloMosaic Cert.ReferenceIdeal Cert.ReferenceIdeal.Gen Cert.ReferenceIdeal.Read Cert.Select Cert.Words Cert.Spec

variable (x0 : FVec Ideal S2x2048x3 .f32) (x1 : FVec Ideal S2x8192x3 .f32) (x2 : FVec Ideal S2x256x180x180 .f32)
  (x3 : FVec Ideal S3x8 .f32) (x4 : FVec Ideal S8x16 .f32) (x5 : FVec Ideal S16x32 .f32) (x6 : FVec Ideal S288x128 .f32)

/-- The negated squared distances. -/
theorem neg_dist (b : Fin 2) (r : Fin 2048) (q : Fin 8192) :
    val_main_v131 (F := Ideal) x0 x1 (ix3 b r q) = -(distRow x0 x1 b r q) := by
  pointwise [val_main_v131, val_main_v130, val_main_v129, val_main_v128, val_main_v127, val_main_v126, val_main_v125,
    val_main_v124, val_main_cst_30]
  simp only [Fin.sum_univ_three]
  rfl

/-- The selected distances. -/
theorem dist_at (b : Fin 2) (r : Fin 2048) (j : Fin 16) :
    val_main_v142 (F := Ideal) x0 x1 (ix3 b r j) = distRow x0 x1 b r (nearest x0 x1 b r j) := by
  show -(val_main_values (F := Ideal) x0 x1 (ix3 b r j)) = _
  unfold val_main_values
  rw [Nearest.values_at _ _ b r (distRow x0 x1 b r) (neg_dist x0 x1 b r), neg_neg]
  rfl

/-- The selected positions. -/
theorem index_at (b : Fin 2) (r : Fin 2048) (j : Fin 16) :
    val_main_indices (F := Ideal) x0 x1 (ix3 b r j) = BitVec.ofNat 32 (nearest x0 x1 b r j).val := by
  unfold val_main_indices
  exact Nearest.indices_at _ _ b r (distRow x0 x1 b r) (neg_dist x0 x1 b r) j

/-- A position is not negative, so the index read is the position. -/
theorem start_at (b : Fin 2) (r : Fin 2048) (j : Fin 16) :
    val_main_v137 (F := Ideal) x0 x1 (ix4 b r j 0) = BitVec.ofNat 32 (nearest x0 x1 b r j).val := by
  have h : val_main_v137 (F := Ideal) x0 x1 (ix4 b r j 0) = val_main_v136 (F := Ideal) x0 x1 (ix3 b r j) := by
    pointwise [val_main_v137]
  rw [h, val_main_v136_apply, val_main_v133_apply, val_main_v132_apply, val_main_c_31_apply, index_at]
  generalize nearest x0 x1 b r j = q
  have hlt := q.isLt
  have hn : IntOp.cmpi .slt (BitVec.ofNat 32 q.val) 0#32 = 0#1 := by
    show BitVec.ofBool (BitVec.slt (BitVec.ofNat 32 q.val) 0#32) = 0#1
    rw [BitVec.slt_eq_decide, toInt_ofNat _ (by omega), show (0#32).toInt = 0 from by decide, decide_eq_false (by omega)]
    rfl
  rw [hn]
  rfl

/-- The offsets of the selected points. -/
theorem offset_at (b : Fin 2) (r : Fin 2048) (j : Fin 16) (k : Fin 3) :
    val_main_v141 (F := Ideal) x0 x1 (ix4 b r j k) = x1 (ix3 b (nearest x0 x1 b r j) k) - x0 (ix3 b r k) := by
  have h : val_main_v140 (F := Ideal) x0 (ix4 b r j k) = x0 (ix3 b r k) := by
    pointwise [val_main_v140, val_main_v139]
  rw [val_main_v141_apply, h]
  unfold val_main_v138
  rw [Nearest.gather_at x1 _ b r j k _ (start_at x0 x1 b r j)]
  rfl

/-- The features of the selected points, one beyond the radius counting as 0. -/
theorem feature_at (b : Fin 2) (r : Fin 2048) (j : Fin 16) (o : Fin 32) :
    val_main_v152 (F := Ideal) x0 x1 x3 x4 x5 (ix4 b r j o)
      = if distRow x0 x1 b r (nearest x0 x1 b r j) ≤ rsq then feature x0 x1 x3 x4 x5 b r (nearest x0 x1 b r j) o else 0 := by
  pointwise [val_main_v152, val_main_call7_v1, val_main_call7_v2, val_main_call7_v0, val_main_cst_34, val_main_v151,
    val_main_v150, val_main_call6_v0, val_main_call6_cst, val_main_v149, val_main_v148, val_main_call5_v0, val_main_call5_cst,
    val_main_v147, val_main_v146, val_main_call4_v0, val_main_call4_cst, val_main_v145, val_main_v144, val_main_v143, val_main_cst_33]
  have h0 : id (constant (F := Ideal) S_ .f32 0#32) ix0 = (0 : EReal) := by
    show constant (F := Ideal) S_ .f32 0#32 ix0 = (0 : EReal)
    pointwise
  simp only [offset_at, dist_at]
  rw [h0]
  rfl

/-- The pooled features. -/
theorem pooled_at (b : Fin 2) (r : Fin 2048) (o : Fin 32) :
    val_main_v153 (F := Ideal) x0 x1 x3 x4 x5 (ix3 b r o) = pooled x0 x1 x3 x4 x5 b r o := by
  pointwise [val_main_v153, val_main_cst_35]
  simp only [feature_at]
  rw [bot_word]
  rfl

/-- The reference's result at an index. -/
theorem result_at (b : Fin 2) (r : Fin 2048) (o : Fin 128) : val_main_v156 (F := Ideal) x0 x1 x2 x3 x4 x5 x6 (ix3 b r o)
    = result x0 x1 x3 x4 x5 (val_main_v123 (F := Ideal) x0 x2) x6 (ix3 b r o) := by
  pointwise [val_main_v156, val_main_call8_v0, val_main_call8_cst, val_main_v155, val_main_v154]
  simp only [pooled_at]
  rfl

/-- The reference's result. -/
theorem result_eq : val_main_v156 (F := Ideal) x0 x1 x2 x3 x4 x5 x6
    = result x0 x1 x3 x4 x5 (val_main_v123 (F := Ideal) x0 x2) x6 := by
  funext y
  have hy : y = (ix3 (y 0) (y 1) (y 2) : S2x2048x128.Idx) := eq_ix3 y
  rw [hy]
  exact result_at x0 x1 x2 x3 x4 x5 x6 _ _ _

end Cert.RefValue

end
-- ==== Proof.Equation.lean ====
/- The reference's map features are the kernel's, and what the precondition says of the first layer's weights. -/
module

public import proofs.«01_k».proof.Proof.Bilinear
public import proofs.«01_k».proof.Proof.Gen.ReferenceIdeal.Read
public import proofs.«01_k».proof.Proof.Gen.Pre_w1_finite
public import Idealize.ShloMosaic.Lib.Pointwise

@[expose] public section

set_option maxRecDepth 16384

noncomputable section

namespace Cert.Equation

open Idealize Idealize.ShloMosaic Cert.ReferenceIdeal Cert.ReferenceIdeal.Gen Cert.ReferenceIdeal.Read Cert.Bilinear Cert.Words

/-- The reference's interpolation, from its two coordinates. -/
theorem mix (x0 : FVec Ideal S2x2048x3 .f32) (x2 : FVec Ideal S2x256x180x180 .f32) :
    val_main_v123 (F := Ideal) x0 x2 = bevOf (val_main_v7 (F := Ideal) x0) (val_main_v15 (F := Ideal) x0) x2 := rfl

/-- The reference's first coordinate, two divisions, is the kernel's one. -/
theorem first (x0 : FVec Ideal S2x2048x3 .f32) : val_main_v7 (F := Ideal) x0 = coordX x0 := by
  funext y
  exact div_div _

/-- The reference's second coordinate, two divisions, is the kernel's one. -/
theorem second (x0 : FVec Ideal S2x2048x3 .f32) : val_main_v15 (F := Ideal) x0 = coordY x0 := by
  funext y
  exact div_div _

/-- The reference's map features at the key points are the kernel's. -/
theorem features (x0 : FVec Ideal S2x2048x3 .f32) (x2 : FVec Ideal S2x256x180x180 .f32) :
    val_main_v123 (F := Ideal) x0 x2 = bevOf (coordX x0) (coordY x0) x2 := by
  rw [mix, first, second]

/-- Where the precondition's function is all ones, every weight of the first layer is a real number. -/
theorem weights (x0 : FVec Ideal S2x2048x3 .f32) (x1 : FVec Ideal S2x8192x3 .f32) (x2 : FVec Ideal S2x256x180x180 .f32)
    (x3 : FVec Ideal S3x8 .f32) (x4 : FVec Ideal S8x16 .f32) (x5 : FVec Ideal S16x32 .f32) (x6 : FVec Ideal S288x128 .f32)
    (h : ∀ i, Cert.Pre_w1_finite.fn (F := Ideal) x0 x1 x2 x3 x4 x5 x6 i = 1#1) (a : Fin 3) (b : Fin 8) :
    ∃ x : ℝ, x3 (ix2 a b) = (x : EReal) := by
  have h' : BitVec.ofBool (decide (max (x3 (ix2 a b) : EReal) (-x3 (ix2 a b)) < Ideal.ofBits .f32 0x7F800000#32)) = 1#1 := h (ix2 a b)
  rw [top_word] at h'
  generalize (x3 (ix2 a b) : EReal) = w at h' ⊢
  induction w using EReal.rec with
  | bot => simp at h'
  | top => simp at h'
  | coe x => exact ⟨x, rfl⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_w1_finite
public import proofs.«01_k».proof.Proof.KernelArray
public import proofs.«01_k».proof.Proof.RefValue
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments as they were, and ends with every counter at zero (it has none). -/
theorem frame_r : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The common result: the specification at the arguments `m` holds. -/
def common (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v120) :=
  Cert.Spec.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (Cert.Bilinear.bevOf (Cert.Bilinear.coordX (m ((c.tc : Thread Cert.KernelIdeal.nD Cert.KernelIdeal.τ).loc Cert.KernelIdeal.main_arg0)))
      (Cert.Bilinear.coordY (m ((c.tc : Thread Cert.KernelIdeal.nD Cert.KernelIdeal.τ).loc Cert.KernelIdeal.main_arg0)))
      (m ((c.tc : Thread Cert.KernelIdeal.nD Cert.KernelIdeal.τ).loc Cert.KernelIdeal.main_arg2)))
    (m ((c.tc : Thread Cert.KernelIdeal.nD Cert.KernelIdeal.τ).loc Cert.KernelIdeal.main_arg6))

/-- The reference's result term is the specification at its arguments. -/
theorem reference (x0 : FVec Ideal Cert.ReferenceIdeal.S2x2048x3 .f32) (x1 : FVec Ideal Cert.ReferenceIdeal.S2x8192x3 .f32)
    (x2 : FVec Ideal Cert.ReferenceIdeal.S2x256x180x180 .f32) (x3 : FVec Ideal Cert.ReferenceIdeal.S3x8 .f32)
    (x4 : FVec Ideal Cert.ReferenceIdeal.S8x16 .f32) (x5 : FVec Ideal Cert.ReferenceIdeal.S16x32 .f32)
    (x6 : FVec Ideal Cert.ReferenceIdeal.S288x128 .f32) :
    Cert.ReferenceIdeal.Read.val_main_v156 (F := Ideal) x0 x1 x2 x3 x4 x5 x6
      = Cert.Spec.result x0 x1 x3 x4 x5 (Cert.Bilinear.bevOf (Cert.Bilinear.coordX x0) (Cert.Bilinear.coordY x0) x2) x6 :=
  (Cert.RefValue.result_eq x0 x1 x2 x3 x4 x5 x6).trans
    (congrArg (fun f => Cert.Spec.result x0 x1 x3 x4 x5 f x6) (Cert.Equation.features x0 x2))

/-- The same at equal arguments. -/
theorem reference_of (x0 y0 : FVec Ideal Cert.ReferenceIdeal.S2x2048x3 .f32)
    (x1 y1 : FVec Ideal Cert.ReferenceIdeal.S2x8192x3 .f32)
    (x2 y2 : FVec Ideal Cert.ReferenceIdeal.S2x256x180x180 .f32)
    (x3 y3 : FVec Ideal Cert.ReferenceIdeal.S3x8 .f32)
    (x4 y4 : FVec Ideal Cert.ReferenceIdeal.S8x16 .f32)
    (x5 y5 : FVec Ideal Cert.ReferenceIdeal.S16x32 .f32)
    (x6 y6 : FVec Ideal Cert.ReferenceIdeal.S288x128 .f32)
    (h : x0 = y0 ∧ x1 = y1 ∧ x2 = y2 ∧ x3 = y3 ∧ x4 = y4 ∧ x5 = y5 ∧ x6 = y6) :
    Cert.ReferenceIdeal.Read.val_main_v156 (F := Ideal) x0 x1 x2 x3 x4 x5 x6
      = Cert.Spec.result y0 y1 y3 y4 y5 (Cert.Bilinear.bevOf (Cert.Bilinear.coordX y0) (Cert.Bilinear.coordY y0) y2) y6 := by
  obtain ⟨rfl, rfl, rfl, rfl, rfl, rfl, rfl⟩ := h
  exact reference _ _ _ _ _ _ _

/-- From memories that agree on the arguments, the first layer's weights finite, both programs end with the same result. -/
theorem equal : Cert.algebraic_KernelIdeal_ReferenceIdeal_pre_w1_finite := fun m g m' g' hp ha =>
  ⟨common m,
    (θ_run (Cert.KernelIdeal.defs (F := Ideal)) _ _).mono
      (fun _ h c => ⟨(h c).1.trans (Cert.KernelArray.final m c (Cert.Equation.weights _ _ _ _ _ _ _ (congrFun (hp c)))), (h c).2⟩)
      (Cert.KernelIdeal.Value.run_blocks (F := Ideal) m g),
    (θ_run (Cert.ReferenceIdeal.defs (F := Ideal)) _ _).mono
      (fun _ h c => ⟨(h c).1.trans ((Cert.ReferenceIdeal.Read.val_main_v156_eq (StableHlo.launchContents m' c)).trans
        (reference_of _ _ _ _ _ _ _ _ _ _ _ _ _ _ (ha c))), (h c).2⟩)
      (Cert.ReferenceIdeal.Value.run (F := Ideal) m' g')⟩

/-- Everything the certificate claims. -/
theorem claim : Cert.Claim := ⟨Cert.Kernel.Gen.facts, Cert.KernelIdeal.Gen.facts, Cert.ReferenceIdeal.Gen.facts, Cert.Pre_w1_finite.Gen.facts,
  fun m ρ _ => Cert.Kernel.Gen.frame m ρ, fun m ρ _ => Cert.KernelIdeal.Gen.frame m ρ,
  fun m ρ _ => Cert.KernelIdeal.Gen.frame m ρ, frame_r, fun m ρ _ => frame_r m ρ trivial, trivial, equal⟩

end Cert.Proof

end
